-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideRefIdeal (m : (ℓ : Loc Cert.SideRefIdeal.nD Cert.SideRefIdeal.τ Cert.SideRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3))
      ∧ r.2.sem = fun _ => 0)

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1)
      ∧ r.2.mem ((c.tc : Thread Cert.Side.nD Cert.Side.τ).loc Cert.Side.main_arg2) = m ((c.tc : Thread Cert.Side.nD Cert.Side.τ).loc Cert.Side.main_arg2)
      ∧ r.2.mem ((c.tc : Thread Cert.Side.nD Cert.Side.τ).loc Cert.Side.main_arg3) = m ((c.tc : Thread Cert.Side.nD Cert.Side.τ).loc Cert.Side.main_arg3)
      ∧ r.2.mem ((c.tc : Thread Cert.Side.nD Cert.Side.τ).loc Cert.Side.main_arg4) = m ((c.tc : Thread Cert.Side.nD Cert.Side.τ).loc Cert.Side.main_arg4))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
      ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
      ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
      ∧ r.2.mem ((c.tc : Thread Cert.SideIdeal.nD Cert.SideIdeal.τ).loc Cert.SideIdeal.main_arg4) = m ((c.tc : Thread Cert.SideIdeal.nD Cert.SideIdeal.τ).loc Cert.SideIdeal.main_arg4))
      ∧ r.2.sem = fun _ => 0)

def quiescent_SideRefIdeal [hSideRefIdeal : Cert.SideRefIdeal.Facts] : Prop :=
  ∀ (m : (ℓ : Loc Cert.SideRefIdeal.nD Cert.SideRefIdeal.τ Cert.SideRefIdeal.sig) → Buf (Elt Ideal) ℓ) (g : Dev Cert.SideRefIdeal.nD → PrngReg), Pre_SideRefIdeal m →
    θ_run (Cert.SideRefIdeal.defs (F := Ideal)) (onTc (τ := Cert.SideRefIdeal.τ) (Cert.SideRefIdeal.main (F := Ideal))) ⟨m, fun _ => 0, g⟩ (fun r => (∀ c : Dev Cert.SideRefIdeal.nD,
      r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1)
      ∧ r.2.mem ((c.tc : Thread Cert.SideRefIdeal.nD Cert.SideRefIdeal.τ).loc Cert.SideRefIdeal.main_arg2) = m ((c.tc : Thread Cert.SideRefIdeal.nD Cert.SideRefIdeal.τ).loc Cert.SideRefIdeal.main_arg2)
      ∧ r.2.mem ((c.tc : Thread Cert.SideRefIdeal.nD Cert.SideRefIdeal.τ).loc Cert.SideRefIdeal.main_arg3) = m ((c.tc : Thread Cert.SideRefIdeal.nD Cert.SideRefIdeal.τ).loc Cert.SideRefIdeal.main_arg3)
      ∧ r.2.mem ((c.tc : Thread Cert.SideRefIdeal.nD Cert.SideRefIdeal.τ).loc Cert.SideRefIdeal.main_arg4) = m ((c.tc : Thread Cert.SideRefIdeal.nD Cert.SideRefIdeal.τ).loc Cert.SideRefIdeal.main_arg4))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v11_0)) (v1 : (c : Dev Cert.AttnIdeal.nD) → Buf (Elt Ideal) ((c.tc : Thread Cert.AttnIdeal.nD Cert.AttnIdeal.τ).loc Cert.AttnIdeal.main_v11_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11_0) = v0 c
          ∧ r.2.mem ((c.tc : Thread Cert.AttnIdeal.nD Cert.AttnIdeal.τ).loc Cert.AttnIdeal.main_v11_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v83) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v10) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v3)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v3) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v14) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)) →
    ∃ (v0 : (c : Dev Cert.MemProjIdeal.nD) → Buf (Elt Ideal) ((c.tc : Thread Cert.MemProjIdeal.nD Cert.MemProjIdeal.τ).loc Cert.MemProjIdeal.main_v1)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v1) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v5) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)) →
    ∃ (v0 : (c : Dev Cert.NextIdeal.nD) → Buf (Elt Ideal) ((c.tc : Thread Cert.NextIdeal.nD Cert.NextIdeal.τ).loc Cert.NextIdeal.main_v4_0)) (v1 : (c : Dev Cert.NextIdeal.nD) → Buf (Elt Ideal) ((c.tc : Thread Cert.NextIdeal.nD Cert.NextIdeal.τ).loc Cert.NextIdeal.main_v4_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v4_0) = v0 c
          ∧ r.2.mem ((c.tc : Thread Cert.NextIdeal.nD Cert.NextIdeal.τ).loc Cert.NextIdeal.main_v4_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v14) = v0 c
          ∧ r.2.mem ((c.tc : Thread Cert.NextRefIdeal.nD Cert.NextRefIdeal.τ).loc Cert.NextRefIdeal.main_v29) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3))

def preserves_Side_SideIdeal : Prop :=
  True

def algebraic_SideIdeal_SideRefIdeal [hSideIdeal : Cert.SideIdeal.Facts] [hSideRefIdeal : Cert.SideRefIdeal.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideRefIdeal.nD Cert.SideRefIdeal.τ Cert.SideRefIdeal.sig) → Buf (Elt Ideal) ℓ) (g' : Dev Cert.SideRefIdeal.nD → PrngReg), Pre_SideIdeal m →
    (∀ c : Dev Cert.SideIdeal.nD,
      m' ((c.tc : Thread Cert.SideRefIdeal.nD Cert.SideRefIdeal.τ).loc Cert.SideRefIdeal.main_arg0) = m ((c.tc : Thread Cert.SideIdeal.nD Cert.SideIdeal.τ).loc Cert.SideIdeal.main_arg0)
      ∧ m' ((c.tc : Thread Cert.SideRefIdeal.nD Cert.SideRefIdeal.τ).loc Cert.SideRefIdeal.main_arg1) = m ((c.tc : Thread Cert.SideIdeal.nD Cert.SideIdeal.τ).loc Cert.SideIdeal.main_arg1)
      ∧ m' ((c.tc : Thread Cert.SideRefIdeal.nD Cert.SideRefIdeal.τ).loc Cert.SideRefIdeal.main_arg2) = m ((c.tc : Thread Cert.SideIdeal.nD Cert.SideIdeal.τ).loc Cert.SideIdeal.main_arg2)
      ∧ m' ((c.tc : Thread Cert.SideRefIdeal.nD Cert.SideRefIdeal.τ).loc Cert.SideRefIdeal.main_arg3) = m ((c.tc : Thread Cert.SideIdeal.nD Cert.SideIdeal.τ).loc Cert.SideIdeal.main_arg3)
      ∧ m' ((c.tc : Thread Cert.SideRefIdeal.nD Cert.SideRefIdeal.τ).loc Cert.SideRefIdeal.main_arg4) = m ((c.tc : Thread Cert.SideIdeal.nD Cert.SideIdeal.τ).loc Cert.SideIdeal.main_arg4)) →
    ∃ (v0 : (c : Dev Cert.SideIdeal.nD) → Buf (Elt Ideal) ((c.tc : Thread Cert.SideIdeal.nD Cert.SideIdeal.τ).loc Cert.SideIdeal.main_v9_1)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v9_1) = v0 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
          ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
          ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
          ∧ r.2.mem ((c.tc : Thread Cert.SideIdeal.nD Cert.SideIdeal.τ).loc Cert.SideIdeal.main_arg4) = m ((c.tc : Thread Cert.SideIdeal.nD Cert.SideIdeal.τ).loc Cert.SideIdeal.main_arg4))
      ∧ θ_run (Cert.SideRefIdeal.defs (F := Ideal)) (onTc (τ := Cert.SideRefIdeal.τ) (Cert.SideRefIdeal.main (F := Ideal))) ⟨m', fun _ => 0, g'⟩ (fun r => ∀ c : Dev Cert.SideRefIdeal.nD,
          r.2.mem ((c.tc : Thread Cert.SideRefIdeal.nD Cert.SideRefIdeal.τ).loc Cert.SideRefIdeal.main_v5) = v0 c
          ∧ r.2.mem ((c.tc : Thread Cert.SideRefIdeal.nD Cert.SideRefIdeal.τ).loc Cert.SideRefIdeal.main_arg0) = m' ((c.tc : Thread Cert.SideRefIdeal.nD Cert.SideRefIdeal.τ).loc Cert.SideRefIdeal.main_arg0)
          ∧ r.2.mem ((c.tc : Thread Cert.SideRefIdeal.nD Cert.SideRefIdeal.τ).loc Cert.SideRefIdeal.main_arg1) = m' ((c.tc : Thread Cert.SideRefIdeal.nD Cert.SideRefIdeal.τ).loc Cert.SideRefIdeal.main_arg1)
          ∧ r.2.mem ((c.tc : Thread Cert.SideRefIdeal.nD Cert.SideRefIdeal.τ).loc Cert.SideRefIdeal.main_arg2) = m' ((c.tc : Thread Cert.SideRefIdeal.nD Cert.SideRefIdeal.τ).loc Cert.SideRefIdeal.main_arg2)
          ∧ r.2.mem ((c.tc : Thread Cert.SideRefIdeal.nD Cert.SideRefIdeal.τ).loc Cert.SideRefIdeal.main_arg3) = m' ((c.tc : Thread Cert.SideRefIdeal.nD Cert.SideRefIdeal.τ).loc Cert.SideRefIdeal.main_arg3)
          ∧ r.2.mem ((c.tc : Thread Cert.SideRefIdeal.nD Cert.SideRefIdeal.τ).loc Cert.SideRefIdeal.main_arg4) = m' ((c.tc : Thread Cert.SideRefIdeal.nD Cert.SideRefIdeal.τ).loc Cert.SideRefIdeal.main_arg4))

def Claim : Prop :=
  ∃ (hAttn : Cert.Attn.Facts) (hAttnIdeal : Cert.AttnIdeal.Facts) (hAttnRefIdeal : Cert.AttnRefIdeal.Facts) (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hLast : Cert.Last.Facts) (hLastIdeal : Cert.LastIdeal.Facts) (hLastRefIdeal : Cert.LastRefIdeal.Facts) (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMemProj : Cert.MemProj.Facts) (hMemProjIdeal : Cert.MemProjIdeal.Facts) (hMemProjRefIdeal : Cert.MemProjRefIdeal.Facts) (hNext : Cert.Next.Facts) (hNextIdeal : Cert.NextIdeal.Facts) (hNextRefIdeal : Cert.NextRefIdeal.Facts) (hSide : Cert.Side.Facts) (hSideIdeal : Cert.SideIdeal.Facts) (hSideRefIdeal : Cert.SideRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Last (hLast := hLast)
    ∧ quiescent_LastIdeal (hLastIdeal := hLastIdeal)
    ∧ quiescent_LastRefIdeal (hLastRefIdeal := hLastRefIdeal)
    ∧ quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_Next (hNext := hNext)
    ∧ quiescent_NextIdeal (hNextIdeal := hNextIdeal)
    ∧ quiescent_NextRefIdeal (hNextRefIdeal := hNextRefIdeal)
    ∧ quiescent_Side (hSide := hSide)
    ∧ quiescent_SideIdeal (hSideIdeal := hSideIdeal)
    ∧ quiescent_SideRefIdeal (hSideRefIdeal := hSideRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Last_LastIdeal
    ∧ algebraic_LastIdeal_LastRefIdeal (hLastIdeal := hLastIdeal) (hLastRefIdeal := hLastRefIdeal)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MemProj_MemProjIdeal
    ∧ algebraic_MemProjIdeal_MemProjRefIdeal (hMemProjIdeal := hMemProjIdeal) (hMemProjRefIdeal := hMemProjRefIdeal)
    ∧ preserves_Next_NextIdeal
    ∧ algebraic_NextIdeal_NextRefIdeal (hNextIdeal := hNextIdeal) (hNextRefIdeal := hNextRefIdeal)
    ∧ preserves_Side_SideIdeal
    ∧ algebraic_SideIdeal_SideRefIdeal (hSideIdeal := hSideIdeal) (hSideRefIdeal := hSideRefIdeal)
-- ==== Pre_finite_scores.lean ====
abbrev S2x4096x4096 : Shape := ⟨3, ![2, 4096, 4096]⟩
abbrev S4096 : Shape := ⟨1, ![4096]⟩
abbrev S4096x1024 : Shape := ⟨2, ![4096, 1024]⟩
abbrev S1024x4096 : Shape := ⟨2, ![1024, 4096]⟩
abbrev S2x256x1024 : Shape := ⟨3, ![2, 256, 1024]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bitsLt_bf16_f32 : FTy.bits .bf16 < FTy.bits .f32
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn_part1 {F : FTy → Type} [FloatOps F] (main_arg6 : FVec F S4096x1024 .f32) (main_arg8 : FVec F S2x256x1024 .bf16) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg6
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S2x256x1024 .f32 := (extf .f32 · bitsLt_bf16_f32) main_arg8
  let main_v25 : FVec F S2x256x1024 .f32 := Host.absf main_v24
  let main_cst_8 : FVec F S_ .f32 := constant S_ .f32 0x7F800000#32
  let main_v26 : FVec F S2x256x1024 .f32 := broadcastInDim S2x256x1024 ![] bcast_S_S2x256x1024 main_cst_8
  let main_v27 : IVec S2x256x1024 1 := cmpf .olt main_v25 main_v26
  let main_c_9 : IVec S_ 1 := constantI S_ 1 1#1
  let main_v28 : IVec S_ 1 := (fun x v => Host.reduce IntOp.andi x v reducesTo_S2x256x1024_S_d0_1_2 h_S_) main_v27 main_c_9
  let main_v29 : IVec S_ 1 := andi main_v23 main_v28
  main_v29

def fn {F : FTy → Type} [FloatOps F] (main_arg0 : FVec F S2x4096x4096 .f32) (main_arg1 : FVec F S2x4096x4096 .f32) (main_arg2 : FVec F S4096 .f32) (main_arg3 : FVec F S4096 .f32) (main_arg4 : FVec F S4096 .f32) (main_arg5 : FVec F S4096 .f32) (main_arg6 : FVec F S4096x1024 .f32) (main_arg7 : FVec F S1024x4096 .f32) (main_arg8 : FVec F S2x256x1024 .bf16) (main_arg9 : FVec F S2x256x1024 .bf16) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_arg8 main_v13 main_v16
-- ==== Attn.lean ====
abbrev S2x4096x4096 : Shape := ⟨3, ![2, 4096, 4096]⟩
abbrev S4096 : Shape := ⟨1, ![4096]⟩
abbrev S4096x1024 : Shape := ⟨2, ![4096, 1024]⟩
abbrev S1024x4096 : Shape := ⟨2, ![1024, 4096]⟩
abbrev S2x256x1024 : Shape := ⟨3, ![2, 256, 1024]⟩
abbrev S1x4096 : Shape := ⟨2, ![1, 4096]⟩
abbrev S4x4096 : Shape := ⟨2, ![4, 4096]⟩
abbrev S8192x4096 : Shape := ⟨2, ![8192, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 23
  | .vmem => 15
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024x4096, .f32⟩
  | .hbm, ⟨8, _⟩ => ⟨S2x256x1024, .bf16⟩
  | .hbm, ⟨9, _⟩ => ⟨S2x256x1024, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S4x4096, .f32⟩
  | .hbm, ⟨15, _⟩ => ⟨S8192x4096, .f32⟩
  | .hbm, ⟨16, _⟩ => ⟨S8192x4096, .f32⟩
  | .hbm, ⟨17, _⟩ => ⟨S4096x1024, .bf16⟩
  | .hbm, ⟨18, _⟩ => ⟨S1024x4096, .bf16⟩
  | .hbm, ⟨19, _⟩ => ⟨S512x1024, .bf16⟩
  | .hbm, ⟨20, _⟩ => ⟨S512x1024, .bf16⟩
  | .hbm, ⟨21, _⟩ => ⟨S8192x4096, .f32⟩
  | .hbm, ⟨22, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4x4096, .f32⟩
  | .local _ .vmem, ⟨5, _⟩ => ⟨S4096x1024, .bf16⟩
  | .local _ .vmem, ⟨6, _⟩ => ⟨S1024x4096, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S2x4096x4096 : Shape := ⟨3, ![2, 4096, 4096]⟩
abbrev S4096 : Shape := ⟨1, ![4096]⟩
abbrev S4096x1024 : Shape := ⟨2, ![4096, 1024]⟩
abbrev S1024x4096 : Shape := ⟨2, ![1024, 4096]⟩
abbrev S2x256x1024 : Shape := ⟨3, ![2, 256, 1024]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x1024 : Shape := ⟨3, ![2, 4096, 1024]⟩
abbrev S2x4096x4x256 : Shape := ⟨4, ![2, 4096, 4, 256]⟩
abbrev S2x4x4096x256 : Shape := ⟨4, ![2, 4, 4096, 256]⟩
abbrev S2x256x4x256 : Shape := ⟨4, ![2, 256, 4, 256]⟩
abbrev S2x4x256x256 : Shape := ⟨4, ![2, 4, 256, 256]⟩
abbrev S2x4x4096 : Shape := ⟨3, ![2, 4, 4096]⟩
abbrev S2x4x4096x1 : Shape := ⟨4, ![2, 4, 4096, 1]⟩
abbrev S8192x4096 : Shape := ⟨2, ![8192, 4096]⟩

abbrev nBuf : Space → Nat
  | .hbm => 110
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S1024x4096, .f32⟩
  | .hbm, ⟨8, _⟩ => ⟨S2x256x1024, .bf16⟩
  | .hbm, ⟨9, _⟩ => ⟨S2x256x1024, .bf16⟩
  | .hbm, ⟨10, _⟩ => ⟨S2x4096x4096, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x4096, .f32⟩
  | .hbm, ⟨22, _⟩ => ⟨S2x4096x4096, .f32⟩
  | .hbm, ⟨23, _⟩ => ⟨S1x1x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x4096, .f32⟩
  | .hbm, ⟨39, _⟩ => ⟨S2x4096x4096, .f32⟩
  | .hbm, ⟨40, _⟩ => ⟨S1x1x4096, .f32⟩
  | .hbm, ⟨41, _⟩ => ⟨S2x4096x4096, .f32⟩
  | .hbm, ⟨42, _⟩ => ⟨S2x4096x4096, .f32⟩
  | .hbm, ⟨43, _⟩ => ⟨S2x4096x1024, .f32⟩
  | .hbm, ⟨44, _⟩ => ⟨S2x4096x4x256, .f32⟩
  | .hbm, ⟨45, _⟩ => ⟨S2x4x4096x256, .f32⟩
  | .hbm, ⟨46, _⟩ => ⟨S_, .f32⟩
  | .hbm, ⟨47, _⟩ => ⟨S2x4x4096x256, .f32⟩
  | .hbm, ⟨48, _⟩ => ⟨S2x4x4096x256, .f32⟩
  | .hbm, ⟨49, _⟩ => ⟨S2x256x1024, .f32⟩
  | .hbm, ⟨50, _⟩ => ⟨S2x256x4x256, .f32⟩
  | .hbm, ⟨51, _⟩ => ⟨S2x4x256x256, .f32⟩
  | .hbm, ⟨52, _⟩ => ⟨S2x256x1024, .f32⟩
  | .hbm, ⟨53, _⟩ => ⟨S2x256x4x256, .f32⟩
  | .hbm, ⟨54, _⟩ => ⟨S2x4x256x256, .f32⟩
  | .hbm, ⟨55, _⟩ => ⟨S2x4x4096x256, .f32⟩
  | .hbm, ⟨56, _⟩ => ⟨S_, .f32⟩
  | .hbm, ⟨57, _⟩ => ⟨S2x4x4096, .f32⟩
  | .hbm, ⟨58, _⟩ => ⟨S_, .f32⟩
  | .hbm, ⟨59, _⟩ => ⟨S2x4x4096, .f32⟩
  | .hbm, ⟨60, _⟩ => ⟨S2x4x4096, .f32⟩
  | .hbm, ⟨61, _⟩ => ⟨S2x4x4096x1, .f32⟩
  | .hbm, ⟨62, _⟩ => ⟨S2x4x4096x256, .f32⟩
  | .hbm, ⟨63, _⟩ => ⟨S2x4x4096x256, .f32⟩
  | .hbm, ⟨64, _⟩ => ⟨S2x4x4096x256, .f32⟩
  | .hbm, ⟨65, _⟩ => ⟨S_, .f32⟩
  | .hbm, ⟨66, _⟩ => ⟨S2x4x4096, .f32⟩
  | .hbm, ⟨67, _⟩ => ⟨S2x4x4096x1, .f32⟩
  | .hbm, ⟨68, _⟩ => ⟨S2x4x4096x256, .f32⟩
  | .hbm, ⟨69, _⟩ => ⟨S2x4x4096x256, .f32⟩
  | .hbm, ⟨70, _⟩ => ⟨S2x4x4096x256, .f32⟩
  | .hbm, ⟨71, _⟩ => ⟨S2x4096x4x256, .f32⟩
  | .hbm, ⟨72, _⟩ => ⟨S2x4096x1024, .f32⟩
  | .hbm, ⟨73, _⟩ => ⟨S2x4096x4096, .f32⟩
  | .hbm, ⟨74, _⟩ => ⟨S2x4096x4096, .f32⟩
  | .hbm, ⟨75, _⟩ => ⟨S_, .f32⟩
  | .hbm, ⟨76, _⟩ => ⟨S2x4096, .f32⟩
  | .hbm, ⟨77, _⟩ => ⟨S2x4096x1, .f32⟩
  | .hbm, ⟨78, _⟩ => ⟨S_, .f32⟩
  | .hbm, ⟨79, _⟩ => ⟨S2x4096x1, .f32⟩
  | .hbm, ⟨80, _⟩ => ⟨S2x4096x1, .f32⟩
  | .hbm, ⟨81, _⟩ => ⟨S_, .f32⟩
  | .hbm, ⟨82, _⟩ => ⟨S2x4096x1, .f32⟩
  | .hbm, ⟨83, _⟩ => ⟨S2x4096x1, .f32⟩
  | .hbm, ⟨84, _⟩ => ⟨S2x4096x1, .f32⟩
  | .hbm, ⟨85, _⟩ => ⟨S2x4096x4096, .f32⟩
  | .hbm, ⟨86, _⟩ => ⟨S2x4096x4096, .f32⟩
  | .hbm, ⟨87, _⟩ => ⟨S1x1x4096, .f32⟩
  | .hbm, ⟨88, _⟩ => ⟨S2x4096x4096, .f32⟩
  | .hbm, ⟨89, _⟩ => ⟨S2x4096x4096, .f32⟩
  | .hbm, ⟨90, _⟩ => ⟨S2x4096x4096, .f32⟩
  | .hbm, ⟨91, _⟩ => ⟨S8192x4096, .f32⟩
  | .hbm, ⟨92, _⟩ => ⟨S2x4096x4096, .f32⟩
  | .hbm, ⟨93, _⟩ => ⟨S_, .f32⟩
  | .hbm, ⟨94, _⟩ => ⟨S2x4096, .f32⟩
  | .hbm, ⟨95, _⟩ => ⟨S2x4096x1, .f32⟩
  | .hbm, ⟨96, _⟩ => ⟨S_, .f32⟩
  | .hbm, ⟨97, _⟩ => ⟨S2x4096x1, .f32⟩
  | .hbm, ⟨98, _⟩ => ⟨S2x4096x1, .f32⟩
  | .hbm, ⟨99, _⟩ => ⟨S_, .f32⟩
  | .hbm, ⟨100, _⟩ => ⟨S2x4096x1, .f32⟩
  | .hbm, ⟨101, _⟩ => ⟨S2x4096x1, .f32⟩
  | .hbm, ⟨102, _⟩ => ⟨S2x4096x1, .f32⟩
  | .hbm, ⟨103, _⟩ => ⟨S2x4096x4096, .f32⟩
  | .hbm, ⟨104, _⟩ => ⟨S2x4096x4096, .f32⟩
  | .hbm, ⟨105, _⟩ => ⟨S1x1x4096, .f32⟩
  | .hbm, ⟨106, _⟩ => ⟨S2x4096x4096, .f32⟩
  | .hbm, ⟨107, _⟩ => ⟨S2x4096x4096, .f32⟩
  | .hbm, ⟨108, _⟩ => ⟨S8192x4096, .f32⟩
  | .hbm, ⟨109, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Gate.lean ====
abbrev S2x4096x4096 : Shape := ⟨3, ![2, 4096, 4096]⟩
abbrev S2x4096x11008 : Shape := ⟨3, ![2, 4096, 11008]⟩
abbrev S8192x4096 : Shape := ⟨2, ![8192, 4096]⟩
abbrev S8192x11008 : Shape := ⟨2, ![8192, 11008]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x11008, .f32⟩
  | .hbm, ⟨2, _⟩ => ⟨S2x4096x11008, .f32⟩
  | .hbm, ⟨3, _⟩ => ⟨S8192x4096, .bf16⟩
  | .hbm, ⟨4, _⟩ => ⟨S8192x11008, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2048x256, .bf16⟩
  | .local _ .vmem, ⟨6, _⟩ => ⟨S2048x256, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S2x4096x4096 : Shape := ⟨3, ![2, 4096, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S_ : Shape := ⟨0, ![]⟩
abbrev S8192x11008 : Shape := ⟨2, ![8192, 11008]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x11008, .f32⟩
  | .hbm, ⟨2, _⟩ => ⟨S2x4096x11008, .f32⟩
  | .hbm, ⟨3, _⟩ => ⟨S2x4096x4096, .f32⟩
  | .hbm, ⟨4, _⟩ => ⟨S1x4096x11008, .f32⟩
  | .hbm, ⟨5, _⟩ => ⟨S4096x11008, .f32⟩
  | .hbm, ⟨6, _⟩ => ⟨S2x4096x11008, .f32⟩
  | .hbm, ⟨7, _⟩ => ⟨S2x4096x11008, .f32⟩
  | .hbm, ⟨8, _⟩ => ⟨S2x4096x11008, .f32⟩
  | .hbm, ⟨9, _⟩ => ⟨S_, .f32⟩
  | .hbm, ⟨10, _⟩ => ⟨S2x4096x11008, .f32⟩
  | .hbm, ⟨11, _⟩ => ⟨S2x4096x11008, .f32⟩
  | .hbm, ⟨12, _⟩ => ⟨S_, .f32⟩
  | .hbm, ⟨13, _⟩ => ⟨S2x4096x11008, .f32⟩
  | .hbm, ⟨14, _⟩ => ⟨S2x4096x11008, .f32⟩
  | .hbm, ⟨15, _⟩ => ⟨S2x4096x11008, .f32⟩
  | .hbm, ⟨16, _⟩ => ⟨S1x4096x11008, .f32⟩
  | .hbm, ⟨17, _⟩ => ⟨S4096x11008, .f32⟩
  | .hbm, ⟨18, _⟩ => ⟨S2x4096x11008, .f32⟩
  | .hbm, ⟨19, _⟩ => ⟨S2x4096x11008, .f32⟩
  | .hbm, ⟨20, _⟩ => ⟨S8192x11008, .f32⟩
  | .hbm, ⟨21, _⟩ => ⟨S8192x11008, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Down.lean ====
abbrev S8192x11008 : Shape := ⟨2, ![8192, 11008]⟩
abbrev S2x11008x4096 : Shape := ⟨3, ![2, 11008, 4096]⟩
abbrev S8192x4096 : Shape := ⟨2, ![8192, 4096]⟩
abbrev S2048x1024 : Shape := ⟨2, ![2048, 1024]⟩
abbrev S1x1024x1024 : Shape := ⟨3, ![1, 1024, 1024]⟩
abbrev S2048x256 : Shape := ⟨2, ![2048, 256]⟩
abbrev S1x256x1024 : Shape := ⟨3, ![1, 256, 1024]⟩
abbrev S2048x768 : Shape := ⟨2, ![2048, 768]⟩
abbrev S256x1024 : Shape := ⟨2, ![256, 1024]⟩
abbrev S768x1024 : Shape := ⟨2, ![768, 1024]⟩
abbrev S1024x1024 : Shape := ⟨2, ![1024, 1024]⟩

abbrev nBuf : Space → Nat
  | .hbm => 3
  | .vmem => 18
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S2048x1024, .f32⟩
  | .local _ .vmem, ⟨17, _⟩ => ⟨S2048x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let c0_i32 : BitVec 32 := 0#32
  ![arg0.toNat, c40_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c41_i32 : BitVec 32 := 41#32
  let c0_i32 : BitVec 32 := 0#32
  ![arg0.toNat, c41_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let c0_i32 : BitVec 32 := 0#32
  ![arg0.toNat, c42_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c40_i32 : BitVec 32 := 40#32
  let c0_i32_0 : BitVec 32 := 0#32
  ![c0_i32.toNat, c40_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c41_i32 : BitVec 32 := 41#32
  let c0_i32_0 : BitVec 32 := 0#32
  ![c0_i32.toNat, c41_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c42_i32 : BitVec 32 := 42#32
  let c0_i32_0 : BitVec 32 := 0#32
  ![c0_i32.toNat, c42_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== DownRefIdeal.lean ====
abbrev S8192x11008 : Shape := ⟨2, ![8192, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Last.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S1x4096, .f32⟩
  | .hbm, ⟨6, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastRefIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S2x4096x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S2x4096x4096, .f32⟩
  | .hbm, ⟨20, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InProj.lean ====
abbrev S2x4096x4096 : Shape := ⟨3, ![2, 4096, 4096]⟩
abbrev S2x4096x14336 : Shape := ⟨3, ![2, 4096, 14336]⟩
abbrev S8192x4096 : Shape := ⟨2, ![8192, 4096]⟩
abbrev S8192x6144 : Shape := ⟨2, ![8192, 6144]⟩
abbrev S2048x4096 : Shape := ⟨2, ![2048, 4096]⟩
abbrev S1x4096x512 : Shape := ⟨3, ![1, 4096, 512]⟩
abbrev S2048x512 : Shape := ⟨2, ![2048, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x14336, .f32⟩
  | .hbm, ⟨2, _⟩ => ⟨S8192x4096, .bf16⟩
  | .hbm, ⟨3, _⟩ => ⟨S8192x6144, .f32⟩
  | .local _ .vmem, ⟨0, _⟩ => ⟨S2048x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2048x512, .f32⟩
  | .local _ .vmem, ⟨4, _⟩ => ⟨S2048x512, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S2x4096x4096 : Shape := ⟨3, ![2, 4096, 4096]⟩
abbrev S2x4096x14336 : Shape := ⟨3, ![2, 4096, 14336]⟩
abbrev S1x4096x14336 : Shape := ⟨3, ![1, 4096, 14336]⟩
abbrev S4096x14336 : Shape := ⟨2, ![4096, 14336]⟩
abbrev S8192x14336 : Shape := ⟨2, ![8192, 14336]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x14336, .f32⟩
  | .hbm, ⟨2, _⟩ => ⟨S2x4096x4096, .f32⟩
  | .hbm, ⟨3, _⟩ => ⟨S1x4096x14336, .f32⟩
  | .hbm, ⟨4, _⟩ => ⟨S4096x14336, .f32⟩
  | .hbm, ⟨5, _⟩ => ⟨S2x4096x14336, .f32⟩
  | .hbm, ⟨6, _⟩ => ⟨S8192x14336, .f32⟩
  | .hbm, ⟨7, _⟩ => ⟨S8192x6144, .f32⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S2x4096x2048 : Shape := ⟨3, ![2, 4096, 2048]⟩
abbrev S2x4096x1024 : Shape := ⟨3, ![2, 4096, 1024]⟩
abbrev S2x4096x4096 : Shape := ⟨3, ![2, 4096, 4096]⟩
abbrev S8192x2048 : Shape := ⟨2, ![8192, 2048]⟩
abbrev S8192x1024 : Shape := ⟨2, ![8192, 1024]⟩
abbrev S8192x4096 : Shape := ⟨2, ![8192, 4096]⟩
abbrev S2048x2048 : Shape := ⟨2, ![2048, 2048]⟩
abbrev S2048x1024 : Shape := ⟨2, ![2048, 1024]⟩
abbrev S1x4096x512 : Shape := ⟨3, ![1, 4096, 512]⟩
abbrev S2048x512 : Shape := ⟨2, ![2048, 512]⟩
abbrev S1x2048x512 : Shape := ⟨3, ![1, 2048, 512]⟩
abbrev S1x1024x512 : Shape := ⟨3, ![1, 1024, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S2x4096x1024, .bf16⟩
  | .hbm, ⟨3, _⟩ => ⟨S2x4096x4096, .f32⟩
  | .hbm, ⟨4, _⟩ => ⟨S8192x2048, .bf16⟩
  | .hbm, ⟨5, _⟩ => ⟨S8192x1024, .bf16⟩
  | .hbm, ⟨6, _⟩ => ⟨S8192x1024, .bf16⟩
  | .hbm, ⟨7, _⟩ => ⟨S8192x4096, .f32⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1x4096x512, .f32⟩
  | .local _ .vmem, ⟨4, _⟩ => ⟨S1x4096x512, .f32⟩
  | .local _ .vmem, ⟨5, _⟩ => ⟨S2048x512, .f32⟩
  | .local _ .vmem, ⟨6, _⟩ => ⟨S2048x512, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S2x4096x2048 : Shape := ⟨3, ![2, 4096, 2048]⟩
abbrev S2x4096x1024 : Shape := ⟨3, ![2, 4096, 1024]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x1024, .bf16⟩
  | .hbm, ⟨2, _⟩ => ⟨S2x4096x1024, .bf16⟩
  | .hbm, ⟨3, _⟩ => ⟨S2x4096x4096, .f32⟩
  | .hbm, ⟨4, _⟩ => ⟨S2x4096x4096, .bf16⟩
  | .hbm, ⟨5, _⟩ => ⟨S2x4096x4096, .f32⟩
  | .hbm, ⟨6, _⟩ => ⟨S1x4096x4096, .f32⟩
  | .hbm, ⟨7, _⟩ => ⟨S4096x4096, .f32⟩
  | .hbm, ⟨8, _⟩ => ⟨S2x4096x4096, .f32⟩
  | .hbm, ⟨9, _⟩ => ⟨S8192x4096, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MemProj.lean ====
abbrev S2x256x4096 : Shape := ⟨3, ![2, 256, 4096]⟩
abbrev S2x4096x1024 : Shape := ⟨3, ![2, 4096, 1024]⟩
abbrev S512x4096 : Shape := ⟨2, ![512, 4096]⟩
abbrev S512x1024 : Shape := ⟨2, ![512, 1024]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 5
  | .smem => 0
  | _ => 0

abbrev bufTy : (tb : Table) → Fin (tcTables nBuf tb) → BufTy
  | .hbm, ⟨0, _⟩ => ⟨S2x256x4096, .bf16⟩
  | .hbm, ⟨1, _⟩ => ⟨S2x4096x1024, .f32⟩
  | .hbm, ⟨2, _⟩ => ⟨S512x4096, .bf16⟩
  | .hbm, ⟨3, _⟩ => ⟨S512x1024, .bf16⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .bf16⟩
  | .local _ .vmem, ⟨4, _⟩ => ⟨S512x512, .bf16⟩
  | _, _ => ⟨S2x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemProjRefIdeal.lean ====
abbrev S2x256x4096 : Shape := ⟨3, ![2, 256, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S2x256x1024 : Shape := ⟨3, ![2, 256, 1024]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2x256x4096, .bf16⟩
  | .hbm, ⟨1, _⟩ => ⟨S2x4096x1024, .f32⟩
  | .hbm, ⟨2, _⟩ => ⟨S2x256x4096, .f32⟩
  | .hbm, ⟨3, _⟩ => ⟨S1x4096x1024, .f32⟩
  | .hbm, ⟨4, _⟩ => ⟨S4096x1024, .f32⟩
  | .hbm, ⟨5, _⟩ => ⟨S2x256x1024, .f32⟩
  | .hbm, ⟨6, _⟩ => ⟨S512x1024, .f32⟩
  | .hbm, ⟨7, _⟩ => ⟨S512x1024, .bf16⟩
  | _, _ => ⟨S2x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Next.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NextRefIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S2x4096x4096, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x4096, .f32⟩
  | .hbm, ⟨16, _⟩ => ⟨S2x4096x4096, .f32⟩
  | .hbm, ⟨17, _⟩ => ⟨S1x1x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S8192x4096, .f32⟩
  | .hbm, ⟨22, _⟩ => ⟨S2x4096x4096, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x4096, .f32⟩
  | .hbm, ⟨34, _⟩ => ⟨S2x4096x4096, .f32⟩
  | .hbm, ⟨35, _⟩ => ⟨S1x1x4096, .f32⟩
  | .hbm, ⟨36, _⟩ => ⟨S2x4096x4096, .f32⟩
  | .hbm, ⟨37, _⟩ => ⟨S2x4096x4096, .f32⟩
  | .hbm, ⟨38, _⟩ => ⟨S8192x4096, .f32⟩
  | .hbm, ⟨39, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Side.lean ====
abbrev S8192x6144 : Shape := ⟨2, ![8192, 6144]⟩
abbrev S2x2x1024 : Shape := ⟨3, ![2, 2, 1024]⟩
abbrev S1024 : Shape := ⟨1, ![1024]⟩
abbrev S2x4096x4096 : Shape := ⟨3, ![2, 4096, 4096]⟩
abbrev S2x4096x14336 : Shape := ⟨3, ![2, 4096, 14336]⟩
abbrev S2x128x128 : Shape := ⟨3, ![2, 128, 128]⟩
abbrev S7x128 : Shape := ⟨2, ![7, 128]⟩
abbrev S2x4x128 : Shape := ⟨3, ![2, 4, 128]⟩
abbrev S8192x4096 : Shape := ⟨2, ![8192, 4096]⟩
abbrev S7x128x1 : Shape := ⟨3, ![7, 128, 1]⟩
abbrev S7x128x128 : Shape := ⟨3, ![7, 128, 128]⟩
abbrev S2x4x128x1 : Shape := ⟨4, ![2, 4, 128, 1]⟩
abbrev S2x4x128x128 : Shape := ⟨4, ![2, 4, 128, 128]⟩
abbrev S4x1024 : Shape := ⟨2, ![4, 1024]⟩
abbrev S1x1024 : Shape := ⟨2, ![1, 1024]⟩
abbrev S8192x1024 : Shape := ⟨2, ![8192, 1024]⟩
abbrev S8192x8192 : Shape := ⟨2, ![8192, 8192]⟩
abbrev S4x128 : Shape := ⟨2, ![4, 128]⟩
abbrev S1024x128 : Shape := ⟨2, ![1024, 128]⟩
abbrev S1x128 : Shape := ⟨2, ![1, 128]⟩
abbrev S1024x4096 : Shape := ⟨2, ![1024, 4096]⟩
abbrev S1x4096x512 : Shape := ⟨3, ![1, 4096, 512]⟩
abbrev S1024x512 : Shape := ⟨2, ![1024, 512]⟩
abbrev S128x128 : Shape := ⟨2, ![128, 128]⟩
abbrev S4096x128 : Shape := ⟨2, ![4096, 128]⟩
abbrev S4096x512 : Shape := ⟨2, ![4096, 512]⟩
abbrev S128x384 : Shape := ⟨2, ![128, 384]⟩
abbrev S128x4096 : Shape := ⟨2, ![128, 4096]⟩
abbrev S128x512 : Shape := ⟨2, ![128, 512]⟩
abbrev S1x1x128x128 : Shape := ⟨4, ![1, 1, 128, 128]⟩
abbrev S1x128x128 : Shape := ⟨3, ![1, 128, 128]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128 : Shape := ⟨1, ![128]⟩
abbrev S128x1 : Shape := ⟨2, ![128, 1]⟩

abbrev nBuf : Space → Nat
  | .hbm => 20
  | .vmem => 27
  | .smem => 0
  | _ => 0

abbrev bufTy : (tb : Table) → Fin (tcTables nBuf tb) → BufTy
  | .hbm, ⟨0, _⟩ => ⟨S8192x6144, .f32⟩
  | .hbm, ⟨1, _⟩ => ⟨S2x2x1024, .f32⟩
  | .hbm, ⟨2, _⟩ => ⟨S1024, .f32⟩
  | .hbm, ⟨3, _⟩ => ⟨S2x4096x4096, .bf16⟩
  | .hbm, ⟨4, _⟩ => ⟨S2x4096x14336, .f32⟩
  | .hbm, ⟨5, _⟩ => ⟨S2x128x128, .i32⟩
  | .hbm, ⟨6, _⟩ => ⟨S7x128, .f32⟩
  | .hbm, ⟨7, _⟩ => ⟨S7x128, .f32⟩
  | .hbm, ⟨8, _⟩ => ⟨S2x4x128, .f32⟩
  | .hbm, ⟨9, _⟩ => ⟨S8192x4096, .bf16⟩
  | .hbm, ⟨10, _⟩ => ⟨S7x128x1, .f32⟩
  | .hbm, ⟨11, _⟩ => ⟨S7x128x128, .f32⟩
  | .hbm, ⟨12, _⟩ => ⟨S7x128x1, .f32⟩
  | .hbm, ⟨13, _⟩ => ⟨S7x128x128, .f32⟩
  | .hbm, ⟨14, _⟩ => ⟨S2x4x128x1, .f32⟩
  | .hbm, ⟨15, _⟩ => ⟨S2x4x128x128, .f32⟩
  | .hbm, ⟨16, _⟩ => ⟨S4x1024, .f32⟩
  | .hbm, ⟨17, _⟩ => ⟨S1x1024, .f32⟩
  | .hbm, ⟨18, _⟩ => ⟨S8192x1024, .bf16⟩
  | .hbm, ⟨19, _⟩ => ⟨S8192x8192, .f32⟩
  | .local _ .vmem, ⟨0, _⟩ => ⟨S4x128, .f32⟩
  | .local _ .vmem, ⟨1, _⟩ => ⟨S4x128, .f32⟩
  | .local _ .vmem, ⟨2, _⟩ => ⟨S2x128x128, .i32⟩
  | .local _ .vmem, ⟨3, _⟩ => ⟨S7x128x128, .f32⟩
  | .local _ .vmem, ⟨4, _⟩ => ⟨S7x128x128, .f32⟩
  | .local _ .vmem, ⟨5, _⟩ => ⟨S2x4x128x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x128, .f32⟩
  | .local _ .vmem, ⟨15, _⟩ => ⟨S1x128, .f32⟩
  | .local _ .vmem, ⟨16, _⟩ => ⟨S1024x4096, .bf16⟩
  | .local _ .vmem, ⟨17, _⟩ => ⟨S1024x4096, .bf16⟩
  | .local _ .vmem, ⟨18, _⟩ => ⟨S1x4096x512, .f32⟩
  | .local _ .vmem, ⟨19, _⟩ => ⟨S1x4096x512, .f32⟩
  | .local _ .vmem, ⟨20, _⟩ => ⟨S1024x128, .bf16⟩
  | .local _ .vmem, ⟨21, _⟩ => ⟨S1024x128, .bf16⟩
  | .local _ .vmem, ⟨22, _⟩ => ⟨S1024x512, .f32⟩
  | .local _ .vmem, ⟨23, _⟩ => ⟨S1024x512, .f32⟩
  | .local _ .vmem, ⟨24, _⟩ => ⟨S128x128, .f32⟩
  | .local _ .vmem, ⟨25, _⟩ => ⟨S4096x128, .f32⟩
  | .local _ .vmem, ⟨26, _⟩ => ⟨S4096x512, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c4_i32 : BitVec 32 := 4#32
  let v5 : BitVec 1 := Scalar.cmpi .slt arg2 c4_i32
  let v6 : BitVec 32 := Scalar.extui v5
  let c0_i32_1 : BitVec 32 := 0#32
  let v7 : BitVec 1 := Scalar.cmpi .ne v6 c0_i32_1
  v7

def k0_mult1 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c896_i32 : BitVec 32 := 896#32
  let v364 : BitVec 32 := Scalar.addi v33 c896_i32
  v364
def k0_off1 (i : grid0.Coords) (c896_i32 : BitVec 32) : Fin 2 → Nat :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let v364 : BitVec 32 := Scalar.addi v33 c896_i32
  let v365 : BitVec 32 := v364
  let v366 : Index := Scalar.indexCast v365
  let c0_119 : Index := 0#32
  ![v366.toNat, 0]
def k0_mult2 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c768_i32 : BitVec 32 := 768#32
  let v660 : BitVec 32 := Scalar.addi v33 c768_i32
  v660
def k0_mult3 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c640_i32 : BitVec 32 := 640#32
  let v956 : BitVec 32 := Scalar.addi v33 c640_i32
  v956
def k0_mult4 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c512_i32 : BitVec 32 := 512#32
  let v1252 : BitVec 32 := Scalar.addi v33 c512_i32
  v1252
def k0_mult5 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c384_i32 : BitVec 32 := 384#32
  let v1548 : BitVec 32 := Scalar.addi v33 c384_i32
  v1548
def k0_mult6 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c256_i32 : BitVec 32 := 256#32
  let v1844 : BitVec 32 := Scalar.addi v33 c256_i32
  v1844
def k0_mult7 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c128_i32 : BitVec 32 := 128#32
  let v2140 : BitVec 32 := Scalar.addi v33 c128_i32
  v2140
def k0_mult8 (i : grid0.Coords) : BitVec 32 :=
  let c3_i32 : BitVec 32 := 3#32
  let arg2 : BitVec 32 := BitVec.ofNat 32 (i 2).val
  let v32 : BitVec 32 := Scalar.subi c3_i32 arg2
  let c1024_i32 : BitVec 32 := 1024#32
  let v33 : BitVec 32 := Scalar.muli v32 c1024_i32
  let c0_i32_809 : BitVec 32 := 0#32
  let v2396 : BitVec 32 := Scalar.addi v33 c0_i32_809
  v2396
def k0_cond4 (i : grid0.Coords) : BitVec 1 :=
  let arg2 : BitVec 32 := BitVec.ofNat 32 (i 2).val
  let c4_i32_4 : BitVec 32 := 4#32
  let v11 : BitVec 1 := Scalar.cmpi .sge arg2 c4_i32_4
  let v12 : BitVec 32 := Scalar.extui v11
  let c0_i32_5 : BitVec 32 := 0#32
  let v13 : BitVec 1 := Scalar.cmpi .ne v12 c0_i32_5
  v13

def k0_mult9 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c0_i32_121 : BitVec 32 := 0#32
  let v364 : BitVec 32 := Scalar.addi v33 c0_i32_121
  v364
def k0_off2 (i : grid0.Coords) (c0_i32_121 : BitVec 32) : Fin 2 → Nat :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let v364 : BitVec 32 := Scalar.addi v33 c0_i32_121
  let v365 : BitVec 32 := v364
  let v366 : Index := Scalar.indexCast v365
  let c0_122 : Index := 0#32
  ![v366.toNat, 0]
def k0_mult10 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c128_i32 : BitVec 32 := 128#32
  let v685 : BitVec 32 := Scalar.addi v33 c128_i32
  v685
def k0_mult11 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c256_i32 : BitVec 32 := 256#32
  let v1006 : BitVec 32 := Scalar.addi v33 c256_i32
  v1006
def k0_mult12 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c384_i32 : BitVec 32 := 384#32
  let v1327 : BitVec 32 := Scalar.addi v33 c384_i32
  v1327
def k0_mult13 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c512_i32 : BitVec 32 := 512#32
  let v1648 : BitVec 32 := Scalar.addi v33 c512_i32
  v1648
def k0_mult14 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c640_i32 : BitVec 32 := 640#32
  let v1969 : BitVec 32 := Scalar.addi v33 c640_i32
  v1969
def k0_mult15 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c768_i32 : BitVec 32 := 768#32
  let v2290 : BitVec 32 := Scalar.addi v33 c768_i32
  v2290
def k0_mult16 (i : grid0.Coords) : BitVec 32 :=
  let arg2 : BitVec 32 := BitVec.ofNat 32 (i 2).val
  let c4_i32_13 : BitVec 32 := 4#32
  let v32 : BitVec 32 := Scalar.subi arg2 c4_i32_13
  let c1024_i32 : BitVec 32 := 1024#32
  let v33 : BitVec 32 := Scalar.muli v32 c1024_i32
  let c896_i32 : BitVec 32 := 896#32
  let v2571 : BitVec 32 := Scalar.addi v33 c896_i32
  v2571
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 1 := Scalar.cmpi .slt arg2 c4_i32_0
  let c3_i32 : BitVec 32 := 3#32
  let v2 : BitVec 32 := Scalar.subi c3_i32 arg2
  let c4_i32_1 : BitVec 32 := 4#32
  let v3 : BitVec 32 := Scalar.subi arg2 c4_i32_1
  let v4 : BitVec 32 := Scalar.select v1 v2 v3
  let v5 : BitVec 32 := Scalar.addi v0 v4
  let c0_i32 : BitVec 32 := 0#32
  let v6 : BitVec 32 := Scalar.addi c0_i32 arg1
  let c0_i32_2 : BitVec 32 := 0#32
  ![v5.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 1 := Scalar.cmpi .slt arg2 c4_i32_0
  let c3_i32 : BitVec 32 := 3#32
  let v2 : BitVec 32 := Scalar.subi c3_i32 arg2
  let c4_i32_1 : BitVec 32 := 4#32
  let v3 : BitVec 32 := Scalar.subi arg2 c4_i32_1
  let v4 : BitVec 32 := Scalar.select v1 v2 v3
  let v5 : BitVec 32 := Scalar.addi v0 v4
  let c4_i32_2 : BitVec 32 := 4#32
  let v6 : BitVec 1 := Scalar.cmpi .slt arg2 c4_i32_2
  let c2_i32 : BitVec 32 := 2#32
  let c1_i32 : BitVec 32 := 1#32
  let v7 : BitVec 32 := Scalar.select v6 c2_i32 c1_i32
  let c8_i32 : BitVec 32 := 8#32
  let v8 : BitVec 32 := Scalar.muli v7 c8_i32
  let c0_i32 : BitVec 32 := 0#32
  let v9 : BitVec 32 := Scalar.addi c0_i32 v8
  let v10 : BitVec 32 := Scalar.addi v9 arg1
  let c0_i32_3 : BitVec 32 := 0#32
  ![v5.toNat, v10.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 1 := Scalar.cmpi .slt arg2 c4_i32_0
  let c3_i32 : BitVec 32 := 3#32
  let v2 : BitVec 32 := Scalar.subi c3_i32 arg2
  let c4_i32_1 : BitVec 32 := 4#32
  let v3 : BitVec 32 := Scalar.subi arg2 c4_i32_1
  let v4 : BitVec 32 := Scalar.select v1 v2 v3
  let v5 : BitVec 32 := Scalar.addi v0 v4
  let c24_i32 : BitVec 32 := 24#32
  let v6 : BitVec 32 := Scalar.addi c24_i32 arg1
  let c0_i32 : BitVec 32 := 0#32
  ![v5.toNat, v6.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.subi arg2 c4_i32_0
  let c0_i32 : BitVec 32 := 0#32
  let v2 : BitVec 32 := Scalar.maxsi v1 c0_i32
  let v3 : BitVec 32 := Scalar.addi v0 v2
  let c32_i32 : BitVec 32 := 32#32
  let v4 : BitVec 32 := Scalar.addi c32_i32 arg1
  let c0_i32_1 : BitVec 32 := 0#32
  ![v3.toNat, v4.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c16_i32 : BitVec 32 := 16#32
  let v4 : BitVec 32 := Scalar.divsi v3 c16_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c16_i32 c0_i32_2
  let v11 : BitVec 32 := Scalar.extui v10
  let c0_i32_3 : BitVec 32 := 0#32
  let v12 : BitVec 1 := Scalar.cmpi .slt c16_i32 c0_i32_3
  let v13 : BitVec 32 := Scalar.extui v12
  let v14 : BitVec 32 := Scalar.subi v11 v13
  let v15 : BitVec 1 := Scalar.cmpi .ne v9 v14
  let v16 : BitVec 32 := Scalar.remsi v3 c16_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  ![v20.toNat, c0_i32_5.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c16_i32 : BitVec 32 := 16#32
  let c0_i32 : BitVec 32 := 0#32
  let v4 : BitVec 1 := Scalar.cmpi .eq c16_i32 c0_i32
  let c1_i32 : BitVec 32 := 1#32
  let v5 : BitVec 32 := Scalar.select v4 c1_i32 c16_i32
  let v6 : BitVec 32 := Scalar.remsi v3 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c0_i32_4 : BitVec 32 := 0#32
  let c0_i32_5 : BitVec 32 := 0#32
  let c0_i32_6 : BitVec 32 := 0#32
  ![c0_i32_4.toNat, c0_i32_5.toNat, v13.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.subi arg2 c4_i32_0
  let c0_i32 : BitVec 32 := 0#32
  let v2 : BitVec 32 := Scalar.maxsi v1 c0_i32
  let v3 : BitVec 32 := Scalar.addi v0 v2
  let c0_i32_1 : BitVec 32 := 0#32
  ![v3.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c16_i32 : BitVec 32 := 16#32
  let v4 : BitVec 32 := Scalar.divsi v3 c16_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c16_i32 c0_i32_2
  let v11 : BitVec 32 := Scalar.extui v10
  let c0_i32_3 : BitVec 32 := 0#32
  let v12 : BitVec 1 := Scalar.cmpi .slt c16_i32 c0_i32_3
  let v13 : BitVec 32 := Scalar.extui v12
  let v14 : BitVec 32 := Scalar.subi v11 v13
  let v15 : BitVec 1 := Scalar.cmpi .ne v9 v14
  let v16 : BitVec 32 := Scalar.remsi v3 c16_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c8_i32_5 : BitVec 32 := 8#32
  let v21 : BitVec 32 := Scalar.muli arg0 c8_i32_5
  let v22 : BitVec 32 := Scalar.addi v21 arg1
  let c8_i32_6 : BitVec 32 := 8#32
  let v23 : BitVec 32 := Scalar.muli v22 c8_i32_6
  let v24 : BitVec 32 := Scalar.addi v23 arg2
  let c16_i32_7 : BitVec 32 := 16#32
  let c0_i32_8 : BitVec 32 := 0#32
  let v25 : BitVec 1 := Scalar.cmpi .eq c16_i32_7 c0_i32_8
  let c1_i32_9 : BitVec 32 := 1#32
  let v26 : BitVec 32 := Scalar.select v25 c1_i32_9 c16_i32_7
  let v27 : BitVec 32 := Scalar.remsi v24 v26
  let c0_i32_10 : BitVec 32 := 0#32
  let v28 : BitVec 1 := Scalar.cmpi .ne v27 c0_i32_10
  let c0_i32_11 : BitVec 32 := 0#32
  let v29 : BitVec 1 := Scalar.cmpi .slt v27 c0_i32_11
  let c0_i32_12 : BitVec 32 := 0#32
  let v30 : BitVec 1 := Scalar.cmpi .slt v26 c0_i32_12
  let v31 : BitVec 1 := Scalar.xori v29 v30
  let v32 : BitVec 1 := Scalar.andi v31 v28
  let v33 : BitVec 32 := Scalar.addi v27 v26
  let v34 : BitVec 32 := Scalar.select v32 v33 v27
  let c0_i32_13 : BitVec 32 := 0#32
  ![v20.toNat, v34.toNat]

abbrev stage0_0 : Fin 2 → Memref sig .tc .vmem S4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S7x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S2x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1024x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x4096x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== SideRefIdeal.lean ====
abbrev S8192x6144 : Shape := ⟨2, ![8192, 6144]⟩
abbrev S2x2x1024 : Shape := ⟨3, ![2, 2, 1024]⟩
abbrev S1024 : Shape := ⟨1, ![1024]⟩
abbrev S2x4096x4096 : Shape := ⟨3, ![2, 4096, 4096]⟩
abbrev S2x4096x14336 : Shape := ⟨3, ![2, 4096, 14336]⟩
abbrev S8192x4096 : Shape := ⟨2, ![8192, 4096]⟩
abbrev S1x4096x14336 : Shape := ⟨3, ![1, 4096, 14336]⟩
abbrev S4096x14336 : Shape := ⟨2, ![4096, 14336]⟩
abbrev S8192x14336 : Shape := ⟨2, ![8192, 14336]⟩
abbrev S8192x8192 : Shape := ⟨2, ![8192, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S2x2x1024, .f32⟩
  | .hbm, ⟨2, _⟩ => ⟨S1024, .f32⟩
  | .hbm, ⟨3, _⟩ => ⟨S2x4096x4096, .bf16⟩
  | .hbm, ⟨4, _⟩ => ⟨S2x4096x14336, .f32⟩
  | .hbm, ⟨5, _⟩ => ⟨S8192x4096, .bf16⟩
  | .hbm, ⟨6, _⟩ => ⟨S8192x4096, .f32⟩
  | .hbm, ⟨7, _⟩ => ⟨S1x4096x14336, .f32⟩
  | .hbm, ⟨8, _⟩ => ⟨S4096x14336, .f32⟩
  | .hbm, ⟨9, _⟩ => ⟨S8192x14336, .f32⟩
  | .hbm, ⟨10, _⟩ => ⟨S8192x8192, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Reals.lean ====
/- Hand-written, untrusted: extended reals that are real numbers, what keeps them so, and the two ways of forming a softmax's
   mean. -/
module

public import Idealize.ShloMosaic.Lib.Pipeline.ValueKit

@[expose] public section

noncomputable section

namespace Cert.Reals

open Idealize.ShloMosaic

/-- An extended real that is a real number. -/
def IsReal (x : EReal) : Prop := ∃ r : ℝ, x = (r : EReal)

theorem isReal_coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

/-- A finite sum of real numbers, as one real number. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- An extended real of finite absolute value is a real number. -/
theorem isReal_of_ne {x : EReal} (ht : x ≠ ⊤) (hb : x ≠ ⊥) : IsReal x := ⟨x.toReal, (EReal.coe_toReal ht hb).symm⟩

/-- A product with a nonnegative real factor distributes over every finite sum. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem ofBits_4096 : Ideal.ofBits .f32 0x45800000#32 = ((4096 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem ofBits_sixteenth : Ideal.ofBits .f32 0x3D800000#32 = ((1 / 16 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The scale of an RMS norm, one over the root of the mean square plus a positive epsilon, is real for a real row. -/
theorem isReal_rms {n : Nat} {f : Fin n → EReal} (h : ∀ i, IsReal (f i)) :
    IsReal (Ideal.rsqrt (Ideal.div (∑ i, f i * f i) (Ideal.ofBits .f32 0x45800000#32) + Ideal.ofBits .f32 0x358637BD#32)) := by
  choose g hg using h
  obtain ⟨e, he, hb⟩ := ofBits_eps
  have hs : (∑ i, f i * f i) = ((∑ i, g i * g i : ℝ) : EReal) := by
    rw [← coe_sum]; exact Finset.sum_congr rfl fun i _ => by rw [hg i, EReal.coe_mul]
  rw [hs, ofBits_4096, hb, Ideal.div_coe (by norm_num), ← EReal.coe_mul, ← EReal.coe_add]
  have h0 : 0 ≤ ∑ i, g i * g i := Finset.sum_nonneg fun i _ => mul_self_nonneg _
  have hp : 0 < (∑ i, g i * g i) * (1 / 4096) + e := by positivity
  rw [Ideal.rsqrt_coe, if_neg hp.not_gt, if_neg hp.ne']
  exact isReal_coe _

/-- A weighted mean over a softmax's weights, formed by dividing the weighted sum by the weights' total (on the left) or by
    dividing every weight first (on the right), for real scores. -/
theorem softmax_mean {n : Nat} [NeZero n] (s v : Fin n → EReal) (h : ∀ i, IsReal (s i)) :
    Ideal.div (∑ x, Ideal.exp (s x - Finset.univ.fold max (Ideal.ofBits .f32 0xFF800000#32) s) * v x)
        (∑ x, Ideal.exp (s x - Finset.univ.fold max (Ideal.ofBits .f32 0xFF800000#32) s))
      = ∑ x, Ideal.div (Ideal.exp (s x - max (Ideal.ofBits .f32 0xFF800000#32)
            (Finset.univ.fold max (Ideal.ofBits .f32 0xFF800000#32) s)))
          (∑ x, Ideal.exp (s x - max (Ideal.ofBits .f32 0xFF800000#32)
            (Finset.univ.fold max (Ideal.ofBits .f32 0xFF800000#32) s))) * v x := by
  rw [ofBits_neg_inf, max_eq_right bot_le]
  have hM : IsReal (Finset.univ.fold max ⊥ s) := by
    obtain ⟨i, _, hi⟩ := Finset.exists_mem_eq_sup Finset.univ (Finset.univ_nonempty (α := Fin n)) s
    have hf : Finset.univ.fold max ⊥ s = Finset.univ.sup s := rfl
    rw [hf, hi]; exact h i
  obtain ⟨M, hM⟩ := hM
  rw [hM]
  choose g hg using h
  have he : ∀ x, Ideal.exp (s x - (M : EReal)) = ((Real.exp (g x - M) : ℝ) : EReal) := fun x => by
    rw [hg x, ← EReal.coe_sub, Ideal.exp_coe]
  simp only [he]
  rw [coe_sum]
  have hd : 0 < ∑ x, Real.exp (g x - M) := Finset.sum_pos (fun x _ => Real.exp_pos _) Finset.univ_nonempty
  rw [Ideal.div_coe hd.ne', sum_mul_coe _ _ (by positivity)]
  refine Finset.sum_congr rfl fun x _ => ?_
  rw [Ideal.div_coe hd.ne', mul_assoc, mul_comm (v x), ← mul_assoc]

end Cert.Reals
-- ==== Proof.AttnPre.lean ====
/- Hand-written, untrusted: what the precondition of the attention's value claim gives. -/
module

public import proofs.«01_k».proof.Pre_finite_scores
public import proofs.«01_k».proof.Proof.Reals
public import Idealize.ShloMosaic.Lib.ReduceAll

@[expose] public section

noncomputable section

namespace Cert.AttnPre

open Idealize.ShloMosaic Cert.Reals

/-- The side conditions the precondition's operations take. -/
theorem facts : Cert.Pre_finite_scores.Facts where
  bcast_S_S2x4096x4096 := by decide
  reducesTo_S2x4096x4096_S_d0_1_2 := by decide
  h_S_ := by decide
  bcast_S_S4096 := by decide
  reducesTo_S4096_S_d0 := by decide
  bcast_S_S4096x1024 := by decide
  reducesTo_S4096x1024_S_d0_1 := by decide
  bitsLt_bf16_f32 := by decide
  bcast_S_S2x256x1024 := by decide
  reducesTo_S2x256x1024_S_d0_1_2 := by decide

/-- An extended real whose absolute value is below the infinity is a real number. -/
theorem isReal_of_abs_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine isReal_of_ne ?_ ?_ <;> rintro rfl <;> simp [Ideal.cmp] at h

instance : Subsingleton Cert.Pre_finite_scores.S_.Idx := ⟨fun a b => funext fun d => d.elim0⟩

open Cert.Pre_finite_scores in
/-- The six arrays the scores are computed from hold real numbers when the precondition is all ones. -/
theorem decode [Facts] {x0 x1 : FVec Ideal S2x4096x4096 .f32} {x2 x3 x4 x5 : FVec Ideal S4096 .f32} {x6 : FVec Ideal S4096x1024 .f32}
    {x7 : FVec Ideal S1024x4096 .f32} {x8 x9 : FVec Ideal S2x256x1024 .bf16}
    (h : fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x6 i))
      ∧ (∀ i, IsReal (x8 i)) := by
  have e := congrFun h (Shape.Idx.first Facts.h_S_)
  dsimp only [fn, fn_part1, andi] at e
  simp only [IntOp.andi_eq_one] at e
  obtain ⟨⟨⟨⟨⟨e0, e1⟩, e2⟩, e3⟩, e6⟩, e8⟩ := e
  exact ⟨fun i => isReal_of_abs_lt (Host.reduce_andi_all _ _ _ _ _ e0 i), fun i => isReal_of_abs_lt (Host.reduce_andi_all _ _ _ _ _ e1 i),
    fun i => isReal_of_abs_lt (Host.reduce_andi_all _ _ _ _ _ e2 i), fun i => isReal_of_abs_lt (Host.reduce_andi_all _ _ _ _ _ e3 i),
    fun i => isReal_of_abs_lt (Host.reduce_andi_all _ _ _ _ _ e6 i), fun i => isReal_of_abs_lt (Host.reduce_andi_all _ _ _ _ _ e8 i)⟩

end Cert.AttnPre
-- ==== Proof.AttnStages.lean ====
/- Hand-written, untrusted: the attention block's expressions, stage by stage, against the reference's stages: the residual row,
   the scaled queries, one head's softmax mean, the output product, and the two normalised results. -/
module

public import proofs.«01_k».proof.Proof.Gen.AttnIdeal.Value
public import proofs.«01_k».proof.Proof.Gen.AttnRefIdeal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen

open Cert.AttnRefIdeal.Read Cert.Reals

variable (x0 x1 : FVec Ideal S2x4096x4096 .f32) (x2 x3 x4 x5 : FVec Ideal S4096 .f32) (x6 : FVec Ideal S4096x1024 .f32)
  (x7 : FVec Ideal S1024x4096 .f32) (x8 x9 : FVec Ideal S2x256x1024 .bf16)

set_option maxHeartbeats 1000000 in
/-- The residual row after the mixer: the kernel's block row is the reference's row. -/
theorem residual_row {P0 P1 : Vec Ideal S256x4096 .f32} {P2 : Vec Ideal S1x4096 .f32} {r : Fin 256} {b : Fin 2} {s : Fin 4096}
    (h0 : ∀ n, P0 (ix2 r n) = x0 (ix3 b s n)) (h1 : ∀ n, P1 (ix2 r n) = x1 (ix3 b s n)) (h2 : ∀ n, P2 (ix2 0 n) = x2 (ix1 n)) (n : Fin 4096) :
    k0_pay3 P0 P1 P2 (ix2 r n) = val_main_v13 (F := Ideal) x0 x1 x2 (ix3 b s n) := by
  pointwise [k0_pay3, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  simp only [h0, h1, h2]

set_option maxHeartbeats 1000000 in
/-- The scaled queries: column `256 h + d` of the kernel's block is head `h` of the reference. -/
theorem query_row {P0 P1 : Vec Ideal S256x4096 .f32} {P2 P3 : Vec Ideal S1x4096 .f32} {P4 : Vec Ideal S4096x1024 .bf16} {r : Fin 256} {b : Fin 2}
    {s : Fin 4096} (h : ∀ n, k0_pay3 P0 P1 P2 (ix2 r n) = val_main_v13 (F := Ideal) x0 x1 x2 (ix3 b s n))
    (h3 : ∀ n, P3 (ix2 0 n) = x3 (ix1 n)) (h4 : ∀ k n, P4 (ix2 k n) = x6 (ix2 k n)) (i : Fin 4) (d : Fin 256) :
    k0_pay4 P0 P1 P2 P3 P4 (ix2 r ⟨i.val * 256 + d.val, by omega⟩) = val_main_v31 (F := Ideal) x0 x1 x2 x3 x6 (ix4 b i s d) := by
  pointwise [k0_pay4, val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_cst_5, val_main_v30, val_main_v31]
  simp only [h, h3, h4]

/-- One head's softmax mean at one column: the weighted sum over the weights' total, the row maximum subtracted first. -/
def headMean (q : Fin 256 → EReal) (k : Fin 256 → Fin 256 → EReal) (v : Fin 256 → EReal) : EReal :=
  Ideal.div
    (∑ x, Ideal.exp ((∑ d, q d * k x d) - Finset.univ.fold max (Ideal.ofBits .f32 0xFF800000#32) fun x => ∑ d, q d * k x d) * v x)
    (∑ x, Ideal.exp ((∑ d, q d * k x d) - Finset.univ.fold max (Ideal.ofBits .f32 0xFF800000#32) fun x => ∑ d, q d * k x d))

set_option maxHeartbeats 1000000 in
theorem head0 (q : FVec Ideal S256x256 .bf16) (k v : Vec Ideal S256x256 .bf16) (r d : Fin 256) :
    k0_pay6 q k v (ix2 r d) = headMean (fun e => q (ix2 r e)) (fun x e => k (ix2 x e)) (fun x => v (ix2 x d)) := by
  unfold headMean
  pointwise [k0_pay6]

set_option maxHeartbeats 1000000 in
theorem head1 (q : FVec Ideal S256x1024 .bf16) (k v : Vec Ideal S256x256 .bf16) (r d : Fin 256) :
    k0_pay7 q k v (ix2 r d) = headMean (fun e => q (ix2 r ⟨256 + e.val, by omega⟩)) (fun x e => k (ix2 x e)) (fun x => v (ix2 x d)) := by
  unfold headMean
  pointwise [k0_pay7]

end Cert.AttnIdeal.RefValue
-- ==== Proof.AttnHead.lean ====
/- Hand-written, untrusted: the attention block's expressions, stage by stage, against the reference's stages: the residual row,
   the scaled queries, one head's softmax mean, the output product, and the two normalised results. -/
module

public import proofs.«01_k».proof.Proof.Gen.AttnIdeal.Value
public import proofs.«01_k».proof.Proof.Gen.AttnRefIdeal.Read
public import Idealize.ShloMosaic.Lib.Pipeline.ValueKit
public import proofs.«01_k».proof.Proof.AttnStages

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen

open Cert.AttnRefIdeal.Read Cert.Reals

variable (x0 x1 : FVec Ideal S2x4096x4096 .f32) (x2 x3 x4 x5 : FVec Ideal S4096 .f32) (x6 : FVec Ideal S4096x1024 .f32)
  (x7 : FVec Ideal S1024x4096 .f32) (x8 x9 : FVec Ideal S2x256x1024 .bf16)

set_option maxHeartbeats 1000000 in
/-- A score of the reference: a scaled query row against a key row of the head. -/
theorem ref_score (b : Fin 2) (i : Fin 4) (s : Fin 4096) (x : Fin 256) :
    val_main_v38 (F := Ideal) x0 x1 x2 x3 x6 x8 (ix4 b i s x)
      = ∑ e : Fin 256, val_main_v31 (F := Ideal) x0 x1 x2 x3 x6 (ix4 b i s e) * x8 (ix3 b x ⟨i.val * 256 + e.val, by omega⟩) := by
  pointwise [val_main_v32, val_main_v33, val_main_v34, val_main_v38]

set_option maxHeartbeats 1000000 in
/-- A maximum along the last axis, at one row. -/
theorem row_max (y : FVec Ideal Cert.AttnRefIdeal.S2x4x4096x256 .f32) (u : FVec Ideal Cert.AttnRefIdeal.S_ .f32) (b : Fin 2) (i : Fin 4) (s : Fin 4096) :
    Host.reduce FloatOps.maximumf y u Cert.AttnRefIdeal.Gen.reducesTo_S2x4x4096x256_S2x4x4096_d3 Cert.AttnRefIdeal.Gen.h_S_ (ix3 b i s)
      = Finset.univ.fold max (u (Shape.Idx.first Cert.AttnRefIdeal.Gen.h_S_)) fun x : Fin 256 => y (ix4 b i s x) := by
  pointwise []

set_option maxHeartbeats 1000000 in
/-- The exponential of a score less its row's maximum. -/
theorem ref_exp (b : Fin 2) (i : Fin 4) (s : Fin 4096) (x : Fin 256) :
    val_main_v45 (F := Ideal) x0 x1 x2 x3 x6 x8 (ix4 b i s x)
      = Ideal.exp (val_main_v38 (F := Ideal) x0 x1 x2 x3 x6 x8 (ix4 b i s x)
          - max (Ideal.ofBits .f32 0xFF800000#32) (Finset.univ.fold max (Ideal.ofBits .f32 0xFF800000#32)
            fun x : Fin 256 => val_main_v38 (F := Ideal) x0 x1 x2 x3 x6 x8 (ix4 b i s x))) := by
  rw [val_main_v45_apply, val_main_v44_apply, val_main_v43_apply, val_main_v42_apply, val_main_v41_apply, val_main_v40_apply]
  have e : idx_main_v42 (idx_main_v43 (ix4 b i s x)) = ix3 b i s := by funext a; fin_cases a <;> rfl
  rw [e]
  have f := row_max (val_main_v38 (F := Ideal) x0 x1 x2 x3 x6 x8) (val_main_cst_6 (F := Ideal)) b i s
  have g : val_main_v39 (F := Ideal) x0 x1 x2 x3 x6 x8 (ix3 b i s) = _ := f
  rw [g]
  generalize val_main_v38 (F := Ideal) x0 x1 x2 x3 x6 x8 = y
  rfl

set_option maxHeartbeats 1000000 in
/-- A weight: the exponential over its row's total. -/
theorem ref_weight (b : Fin 2) (i : Fin 4) (s : Fin 4096) (x : Fin 256) :
    val_main_v49 (F := Ideal) x0 x1 x2 x3 x6 x8 (ix4 b i s x)
      = Ideal.div (val_main_v45 (F := Ideal) x0 x1 x2 x3 x6 x8 (ix4 b i s x))
          (∑ x : Fin 256, val_main_v45 (F := Ideal) x0 x1 x2 x3 x6 x8 (ix4 b i s x)) := by
  pointwise [val_main_cst_8, val_main_v46, val_main_v47, val_main_v48, val_main_v49]

set_option maxHeartbeats 1000000 in
/-- One head's mean in the reference: the values of the head under the weights. -/
theorem ref_head (b : Fin 2) (i : Fin 4) (s : Fin 4096) (d : Fin 256) :
    val_main_v50 (F := Ideal) x0 x1 x2 x3 x6 x8 x9 (ix4 b i s d)
      = ∑ x : Fin 256, val_main_v49 (F := Ideal) x0 x1 x2 x3 x6 x8 (ix4 b i s x) * x9 (ix3 b x ⟨i.val * 256 + d.val, by omega⟩) := by
  pointwise [val_main_v35, val_main_v36, val_main_v37, val_main_v50]

set_option maxHeartbeats 1000000 in
/-- One head's mean is the reference's, for real scores. -/
theorem head_ref {q : Fin 256 → EReal} {k : Fin 256 → Fin 256 → EReal} {v : Fin 256 → EReal} {b : Fin 2} {i : Fin 4} {s : Fin 4096} {d : Fin 256}
    (hq : ∀ e, q e = val_main_v31 (F := Ideal) x0 x1 x2 x3 x6 (ix4 b i s e))
    (hk : ∀ x (e : Fin 256), k x e = x8 (ix3 b x ⟨i.val * 256 + e.val, by omega⟩)) (hv : ∀ x, v x = x9 (ix3 b x ⟨i.val * 256 + d.val, by omega⟩))
    (rq : ∀ e, IsReal (q e)) (rk : ∀ x e, IsReal (k x e)) :
    headMean q k v = val_main_v50 (F := Ideal) x0 x1 x2 x3 x6 x8 x9 (ix4 b i s d) := by
  have hs := softmax_mean (fun x => ∑ e, q e * k x e) v fun x => IsReal.sum _ fun e => (rq e).mul (rk x e)
  refine Eq.trans ?_ (hs.trans ?_)
  · rfl
  rw [ref_head]
  have sc : ∀ x, (∑ e, q e * k x e) = val_main_v38 (F := Ideal) x0 x1 x2 x3 x6 x8 (ix4 b i s x) := fun x => by
    rw [ref_score]; exact Finset.sum_congr rfl fun e _ => by rw [hq, hk]
  simp only [sc]
  refine Finset.sum_congr rfl fun x _ => ?_
  rw [ref_weight, hv]
  simp only [ref_exp]

end Cert.AttnIdeal.RefValue
-- ==== Proof.AttnRows.lean ====
/- Hand-written, untrusted: the attention block's expressions, stage by stage, against the reference's stages: the residual row,
   the scaled queries, one head's softmax mean, the output product, and the two normalised results. -/
module

public import proofs.«01_k».proof.Proof.Gen.AttnIdeal.Value
public import proofs.«01_k».proof.Proof.Gen.AttnRefIdeal.Read
public import Idealize.ShloMosaic.Lib.Pipeline.ValueKit
public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen

open Cert.AttnRefIdeal.Read Cert.Reals

variable (x0 x1 : FVec Ideal S2x4096x4096 .f32) (x2 x3 x4 x5 : FVec Ideal S4096 .f32) (x6 : FVec Ideal S4096x1024 .f32)
  (x7 : FVec Ideal S1024x4096 .f32) (x8 x9 : FVec Ideal S2x256x1024 .bf16)

set_option maxHeartbeats 2000000 in
/-- The output product over the four heads side by side. -/
theorem product_row {q : FVec Ideal S256x1024 .bf16} {g0 g1 : FVec Ideal S256x256 .bf16} {k2 k3 v2 v3 : Vec Ideal S256x256 .bf16}
    {wo : Vec Ideal S1024x4096 .bf16} {r : Fin 256} {b : Fin 2} {s : Fin 4096}
    (h0 : ∀ d, g0 (ix2 r d) = val_main_v50 (F := Ideal) x0 x1 x2 x3 x6 x8 x9 (ix4 b 0 s d))
    (h1 : ∀ d, g1 (ix2 r d) = val_main_v50 (F := Ideal) x0 x1 x2 x3 x6 x8 x9 (ix4 b 1 s d))
    (h2 : ∀ d, headMean (fun e => q (ix2 r ⟨512 + e.val, by omega⟩)) (fun x e => k2 (ix2 x e)) (fun x => v2 (ix2 x d))
      = val_main_v50 (F := Ideal) x0 x1 x2 x3 x6 x8 x9 (ix4 b 2 s d))
    (h3 : ∀ d, headMean (fun e => q (ix2 r ⟨768 + e.val, by omega⟩)) (fun x e => k3 (ix2 x e)) (fun x => v3 (ix2 x d))
      = val_main_v50 (F := Ideal) x0 x1 x2 x3 x6 x8 x9 (ix4 b 3 s d))
    (hw : ∀ k n, wo (ix2 k n) = x7 (ix2 k n)) (n : Fin 4096) :
    k0_pay10 q g0 g1 (k0_pay8 q k2) (k0_pay9 q k2) v2 k3 v3 wo (ix2 r n) = val_main_v53 (F := Ideal) x0 x1 x2 x3 x6 x7 x8 x9 (ix3 b s n) := by
  generalize hy : val_main_v50 (F := Ideal) x0 x1 x2 x3 x6 x8 x9 = Y at h0 h1 h2 h3
  have hr : val_main_v53 (F := Ideal) x0 x1 x2 x3 x6 x7 x8 x9 (ix3 b s n)
      = ∑ x : Fin 1024, Y (ix4 b ⟨x.val / 256, by omega⟩ s ⟨x.val % 256, by omega⟩) * x7 (ix2 x n) := by
    subst hy
    pointwise [val_main_v51, val_main_v52, val_main_v53]
  rw [hr]
  unfold headMean at h2 h3
  pointwise [k0_pay10, k0_pay8, k0_pay9]
  refine Finset.sum_congr rfl fun x _ => ?_
  rw [hw]
  congr 1
  have hx := x.isLt
  have ix : ∀ (i : Fin 4) (d : Fin 256), x.val = i.val * 256 + d.val → ix4 b i s d = ix4 b ⟨x.val / 256, by omega⟩ s ⟨x.val % 256, by omega⟩ := by
    intro i d h
    rw [show (⟨x.val / 256, by omega⟩ : Fin 4) = i from Fin.ext (by simp only; omega), show (⟨x.val % 256, by omega⟩ : Fin 256) = d from Fin.ext (by simp only; omega)]
  by_cases a1 : x.val < 256
  · rw [dif_pos a1, h0]; exact congrArg Y (ix 0 _ (by simp))
  rw [dif_neg a1]
  by_cases a2 : x.val - 256 < 256
  · rw [dif_pos a2, h1]; exact congrArg Y (ix 1 _ (by simp; omega))
  rw [dif_neg a2]
  by_cases a3 : x.val - 256 - 256 < 256
  · rw [dif_pos a3]; exact (h2 _).trans (congrArg Y (ix 2 _ (by simp; omega)))
  rw [dif_neg a3]
  exact (h3 ⟨x.val - 256 - 256 - 256, by omega⟩).trans (congrArg Y (ix 3 _ (by simp; omega)))

/-- The sums of squares along the rows, as a column. -/
def squares (B : FVec Ideal S256x4096 .f32) : FVec Ideal S256x1 .f32 :=
  shapeCast S256x1 (multiReduction .add [1] S256 (mulf B B) 0x00000000#32 reduces_S256x4096_S256 (.inl rfl) rfl) shapeCasts_S256_S256x1

theorem squares_apply (B : FVec Ideal S256x4096 .f32) (r : Fin 256) : squares B (ix2 r 0) = ∑ x : Fin 4096, B (ix2 r x) * B (ix2 r x) := by
  pointwise [squares]

theorem length_apply (r : Fin 256) : k0_pay13 (F := Ideal) (ix2 r 0) = Ideal.ofBits .f32 0x45800000#32 := by
  pointwise [k0_pay13]

/-- A residual row plus a normalised product row. -/
theorem add_norm_row (A B : FVec Ideal S256x4096 .f32) (C D : FVec Ideal S256x1 .f32) (P : Vec Ideal S1x4096 .f32) (r : Fin 256) (n : Fin 4096) :
    k0_pay1 A B (k0_pay11 P) C D (ix2 r n)
      = A (ix2 r n) + B (ix2 r n) * Ideal.rsqrt (Ideal.div (C (ix2 r 0)) (D (ix2 r 0)) + Ideal.ofBits .f32 0x358637BD#32) * P (ix2 0 n) := by
  pointwise [k0_pay1, k0_pay11]

theorem zero_bits : Ideal.ofBits .f32 0x00000000#32 = 0 := by simp [Ideal.ofBits, Ideal.ieee]

/-- The reference's mean of squares of a product row. -/
theorem ref_mean (b : Fin 2) (s : Fin 4096) :
    val_main_v61 (F := Ideal) x0 x1 x2 x3 x6 x7 x8 x9 (ix3 b s 0)
      = Ideal.rsqrt (Ideal.div (∑ x : Fin 4096, val_main_v53 (F := Ideal) x0 x1 x2 x3 x6 x7 x8 x9 (ix3 b s x)
            * val_main_v53 (F := Ideal) x0 x1 x2 x3 x6 x7 x8 x9 (ix3 b s x)) (Ideal.ofBits .f32 0x45800000#32)
          + Ideal.ofBits .f32 0x358637BD#32) := by
  rw [val_main_v61_apply, val_main_v60_apply, val_main_v58_apply, val_main_v56_apply, val_main_v55_apply, val_main_v57_apply, val_main_v59_apply]
  generalize hZ : val_main_v54 (F := Ideal) x0 x1 x2 x3 x6 x7 x8 x9 = Z
  have hz : ∀ i, Z i = val_main_v53 (F := Ideal) x0 x1 x2 x3 x6 x7 x8 x9 i * val_main_v53 (F := Ideal) x0 x1 x2 x3 x6 x7 x8 x9 i := by
    intro i
    rw [← hZ, val_main_v54_apply]
    generalize val_main_v53 (F := Ideal) x0 x1 x2 x3 x6 x7 x8 x9 = Y
    rfl
  clear hZ
  have e : ∀ k : Fin 4096, idx_main_v55 (idx_main_v56 (ix3 b s 0)) k = ix3 b s k := fun k => by funext a; fin_cases a <;> rfl
  generalize val_main_v53 (F := Ideal) x0 x1 x2 x3 x6 x7 x8 x9 = Y at hz ⊢
  simp only [e, hz]
  have z : val_main_cst_9 (F := Ideal) (Shape.Idx.first Cert.AttnRefIdeal.Gen.h_S_) = 0 := zero_bits
  rw [z, zero_add]
  rfl

/-- The reference's second residual. -/
theorem ref_second (b : Fin 2) (s n : Fin 4096) :
    val_main_v67 (F := Ideal) x0 x1 x2 x3 x4 x6 x7 x8 x9 (ix3 b s n)
      = val_main_v13 (F := Ideal) x0 x1 x2 (ix3 b s n) + val_main_v53 (F := Ideal) x0 x1 x2 x3 x6 x7 x8 x9 (ix3 b s n)
        * Ideal.rsqrt (Ideal.div (∑ x : Fin 4096, val_main_v53 (F := Ideal) x0 x1 x2 x3 x6 x7 x8 x9 (ix3 b s x)
            * val_main_v53 (F := Ideal) x0 x1 x2 x3 x6 x7 x8 x9 (ix3 b s x)) (Ideal.ofBits .f32 0x45800000#32)
          + Ideal.ofBits .f32 0x358637BD#32) * x4 (ix1 n) := by
  rw [val_main_v67_apply, val_main_v66_apply, val_main_v63_apply, val_main_v62_apply, val_main_v65_apply, val_main_v64_apply]
  have e : idx_main_v62 (ix3 b s n) = ix3 b s 0 := by funext a; fin_cases a <;> rfl
  have e' : idx_main_v64 (idx_main_v65 (ix3 b s n)) = ix1 n := by funext a; fin_cases a <;> rfl
  rw [e, e', ref_mean]
  generalize val_main_v53 (F := Ideal) x0 x1 x2 x3 x6 x7 x8 x9 = Y
  generalize val_main_v13 (F := Ideal) x0 x1 x2 = X
  rfl

/-- The second residual row, on any product row. -/
theorem second_row {A B : FVec Ideal S256x4096 .f32} {P : Vec Ideal S1x4096 .f32} {r : Fin 256} {b : Fin 2} {s : Fin 4096}
    (hA : ∀ n, A (ix2 r n) = val_main_v13 (F := Ideal) x0 x1 x2 (ix3 b s n))
    (hB : ∀ n, B (ix2 r n) = val_main_v53 (F := Ideal) x0 x1 x2 x3 x6 x7 x8 x9 (ix3 b s n))
    (hP : ∀ n, P (ix2 0 n) = x4 (ix1 n)) (n : Fin 4096) :
    k0_pay1 A B (k0_pay11 P) (squares B) k0_pay13 (ix2 r n) = val_main_v67 (F := Ideal) x0 x1 x2 x3 x4 x6 x7 x8 x9 (ix3 b s n) := by
  rw [add_norm_row, ref_second, squares_apply, length_apply, hA, hB, hP]
  simp only [hB]

set_option maxHeartbeats 1000000 in
/-- The second residual row, normalised. -/
theorem normed_row {A B : FVec Ideal S256x4096 .f32} {G : FVec Ideal S1x4096 .f32} {C D : FVec Ideal S256x1 .f32}
    {P : Vec Ideal S1x4096 .f32} {r : Fin 256} {b : Fin 2} {s : Fin 4096}
    (h : ∀ n, k0_pay1 A B G C D (ix2 r n) = val_main_v67 (F := Ideal) x0 x1 x2 x3 x4 x6 x7 x8 x9 (ix3 b s n))
    (hP : ∀ n, P (ix2 0 n) = x5 (ix1 n)) (j : S8192x4096.Idx) (hb : b.val = (j 0).val / 4096)
    (hs : s.val = (j 0).val % 4096) :
    k0_pay2 A B G C D P (ix2 r (j 1)) = val_main_v83 (F := Ideal) x0 x1 x2 x3 x4 x5 x6 x7 x8 x9 j := by
  generalize hX : val_main_v67 (F := Ideal) x0 x1 x2 x3 x4 x6 x7 x8 x9 = X at h
  pointwise [k0_pay2, val_main_v68, val_main_v69, val_main_cst_12, val_main_v70, val_main_v71, val_main_cst_13, val_main_v72, val_main_v73, val_main_cst_14, val_main_v74, val_main_v75, val_main_v76, val_main_v77, val_main_v78, val_main_v79, val_main_v80, val_main_v81, val_main_v82, val_main_v83]
  rw [hX]
  have eb : (⟨(j 0).val / 4096, by omega⟩ : Fin 2) = b := Fin.ext hb.symm
  have es : (⟨(j 0).val % 4096, by omega⟩ : Fin 4096) = s := Fin.ext hs.symm
  simp only [h, eb, es]
  exact congrArg₂ (· * ·) (congrArg (· * _) (h (j 1))) (hP (j 1))

end Cert.AttnIdeal.RefValue
-- ==== Proof.AttnValue.lean ====
/- Hand-written, untrusted: the two arrays the attention call leaves are the reference's terms of the same arguments. -/
module

public import proofs.«01_k».proof.Proof.Gen.AttnIdeal.Value
public import proofs.«01_k».proof.Proof.Gen.AttnRefIdeal.Read
public import Idealize.ShloMosaic.Lib.Pipeline.ValueKit
public import proofs.«01_k».proof.Proof.AttnRows

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen

open Cert.AttnRefIdeal.Read Cert.Reals

variable (m : (ℓ : Loc nD τ sig) → Buf (Elt Ideal) ℓ)

/-- Every window's block index in closed form. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val / 16, 0] ∧ win0_6.index t = ![t.val / 16, 0]
    ∧ win0_7.index t = ![t.val, 0] ∧ win0_8.index t = ![t.val, 0] :=
  (by decide +kernel : ∀ t : Fin grid0.N, _)

/-- The host's stack of the four gains. -/
def stack (g : Fin 4 → FVec Ideal S4096 .f32) : FVec Ideal S4x4096 .f32 :=
  concatenate S4x4096 0 [⟨S1x4096, broadcastInDim S1x4096 ![1] bcast_S4096_S1x4096_1 (g 0)⟩, ⟨S1x4096, broadcastInDim S1x4096 ![1] bcast_S4096_S1x4096_1 (g 1)⟩,
    ⟨S1x4096, broadcastInDim S1x4096 ![1] bcast_S4096_S1x4096_1 (g 2)⟩, ⟨S1x4096, broadcastInDim S1x4096 ![1] bcast_S4096_S1x4096_1 (g 3)⟩]
    concatenates_S1x4096_S1x4096_S1x4096_S1x4096_S4x4096_d0

theorem stack_apply (g : Fin 4 → FVec Ideal S4096 .f32) (i : Fin 4) (n : Fin 4096) : stack g (ix2 i n) = g i (ix1 n) := by
  unfold stack
  have h := concatenate_ofFn_unit_apply (t := S4x4096) (s₁ := S1x4096) 0 (fun k : Fin 4 => broadcastInDim S1x4096 ![1] bcast_S4096_S1x4096_1 (g k))
    concatenates_S1x4096_S1x4096_S1x4096_S1x4096_S4x4096_d0 rfl rfl (ix2 i n) i rfl (ix2 0 n) (by intro b hb; fin_cases b <;> first | rfl | exact absurd rfl hb)
  refine Eq.trans ?_ (h.trans ?_)
  · rfl
  · pointwise []

theorem V_gains (c : Dev nD) : V m c main_v4 = stack ![m ((c : Thread nD τ).loc main_arg2), m ((c : Thread nD τ).loc main_arg3),
    m ((c : Thread nD τ).loc main_arg4), m ((c : Thread nD τ).loc main_arg5)] := by
  unfold stack
  unfold_abbrev_sides
  after_results
  rfl

/-! ### What the windows hold -/

theorem rows0 (c : Dev nD) (t : Fin cfg0.N) (r : Fin 256) (b : Fin 2) (s : Fin 4096) (h : t.val * 256 + r.val = b.val * 4096 + s.val) (n : Fin 4096) :
    iblk m c 0 t (ix2 r n) = m ((c : Thread nD τ).loc main_arg0) (ix3 b s n) := by
  blk_point [iblk, V, idx t]

theorem rows1 (c : Dev nD) (t : Fin cfg0.N) (r : Fin 256) (b : Fin 2) (s : Fin 4096) (h : t.val * 256 + r.val = b.val * 4096 + s.val) (n : Fin 4096) :
    iblk m c 1 t (ix2 r n) = m ((c : Thread nD τ).loc main_arg1) (ix3 b s n) := by
  blk_point [iblk, V, idx t]

theorem gains (c : Dev nD) (t : Fin cfg0.N) (i : Fin 4) (n : Fin 4096) :
    iblk m c 2 t (ix2 i n) = stack ![m ((c : Thread nD τ).loc main_arg2), m ((c : Thread nD τ).loc main_arg3),
      m ((c : Thread nD τ).loc main_arg4), m ((c : Thread nD τ).loc main_arg5)] (ix2 i n) := by
  rw [← V_gains]
  blk_point [iblk, idx t]

theorem gain0 (c : Dev nD) (t : Fin cfg0.N) (n : Fin 4096) : iblk m c 2 t (ix2 0 n) = m ((c : Thread nD τ).loc main_arg2) (ix1 n) :=
  (gains m c t 0 n).trans (stack_apply _ 0 n)

theorem gain1 (c : Dev nD) (t : Fin cfg0.N) (n : Fin 4096) : iblk m c 2 t (ix2 1 n) = m ((c : Thread nD τ).loc main_arg3) (ix1 n) :=
  (gains m c t 1 n).trans (stack_apply _ 1 n)

theorem gain2 (c : Dev nD) (t : Fin cfg0.N) (n : Fin 4096) : iblk m c 2 t (ix2 2 n) = m ((c : Thread nD τ).loc main_arg4) (ix1 n) :=
  (gains m c t 2 n).trans (stack_apply _ 2 n)

theorem gain3 (c : Dev nD) (t : Fin cfg0.N) (n : Fin 4096) : iblk m c 2 t (ix2 3 n) = m ((c : Thread nD τ).loc main_arg5) (ix1 n) :=
  (gains m c t 3 n).trans (stack_apply _ 3 n)

theorem queries (c : Dev nD) (t : Fin cfg0.N) (k : Fin 4096) (n : Fin 1024) :
    iblk m c 3 t (ix2 k n) = m ((c : Thread nD τ).loc main_arg6) (ix2 k n) := by
  blk_point [iblk, V, idx t]

theorem outputs (c : Dev nD) (t : Fin cfg0.N) (k : Fin 1024) (n : Fin 4096) :
    iblk m c 4 t (ix2 k n) = m ((c : Thread nD τ).loc main_arg7) (ix2 k n) := by
  blk_point [iblk, V, idx t]

theorem keys (c : Dev nD) (t : Fin cfg0.N) (b : Fin 2) (h : t.val / 16 = b.val) (x : Fin 256) (n : Fin 1024) :
    iblk m c 5 t (ix2 x n) = m ((c : Thread nD τ).loc main_arg8) (ix3 b x n) := by
  blk_point [iblk, V, idx t]

theorem values (c : Dev nD) (t : Fin cfg0.N) (b : Fin 2) (h : t.val / 16 = b.val) (x : Fin 256) (n : Fin 1024) :
    iblk m c 6 t (ix2 x n) = m ((c : Thread nD τ).loc main_arg9) (ix3 b x n) := by
  blk_point [iblk, V, idx t]

/-! ### Reads of a block's parts -/

section parts
variable {e : EltTy} (x : Vec Ideal S4x4096 e) (k : Vec Ideal S256x1024 e)

theorem ld_gain0 (n : Fin 4096) : View.ld x r0_1 (ix2 0 n) = x (ix2 0 n) := by
  exact View.ld_unit_apply_of _ _ _ _ _ _ (by intro a; fin_cases a <;> simp)
theorem ld_gain1 (n : Fin 4096) : View.ld x r0_2 (ix2 0 n) = x (ix2 1 n) := by
  exact View.ld_unit_apply_of _ _ _ _ _ _ (by intro a; fin_cases a <;> simp)
theorem ld_gain2 (n : Fin 4096) : View.ld x r0_9 (ix2 0 n) = x (ix2 2 n) := by
  exact View.ld_unit_apply_of _ _ _ _ _ _ (by intro a; fin_cases a <;> simp)
theorem ld_gain3 (n : Fin 4096) : View.ld x r0_10 (ix2 0 n) = x (ix2 3 n) := by
  exact View.ld_unit_apply_of _ _ _ _ _ _ (by intro a; fin_cases a <;> simp)
theorem ld_head0 (a d : Fin 256) : View.ld k r0_4 (ix2 a d) = k (ix2 a ⟨d.val, by omega⟩) := by
  exact View.ld_unit_apply_of _ _ _ _ _ _ (by intro a; fin_cases a <;> simp)
theorem ld_head1 (a d : Fin 256) : View.ld k r0_5 (ix2 a d) = k (ix2 a ⟨256 + d.val, by omega⟩) := by
  exact View.ld_unit_apply_of _ _ _ _ _ _ (by intro a; fin_cases a <;> simp)
theorem ld_head2 (a d : Fin 256) : View.ld k r0_6 (ix2 a d) = k (ix2 a ⟨512 + d.val, by omega⟩) := by
  exact View.ld_unit_apply_of _ _ _ _ _ _ (by intro a; fin_cases a <;> simp)
theorem ld_head3 (a d : Fin 256) : View.ld k r0_7 (ix2 a d) = k (ix2 a ⟨768 + d.val, by omega⟩) := by
  exact View.ld_unit_apply_of _ _ _ _ _ _ (by intro a; fin_cases a <;> simp)

end parts

/-! ### The scaled queries are real for real arguments -/

section real
variable {x0 x1 : FVec Ideal S2x4096x4096 .f32} {x2 x3 : FVec Ideal S4096 .f32} {x6 : FVec Ideal S4096x1024 .f32}

theorem residual_real (h0 : ∀ i, IsReal (x0 i)) (h1 : ∀ i, IsReal (x1 i)) (h2 : ∀ i, IsReal (x2 i)) (b : Fin 2) (s n : Fin 4096) :
    IsReal (val_main_v13 (F := Ideal) x0 x1 x2 (ix3 b s n)) := by
  have e : val_main_v13 (F := Ideal) x0 x1 x2 (ix3 b s n) = x0 (ix3 b s n) + x1 (ix3 b s n)
      * Ideal.rsqrt (Ideal.div (∑ x : Fin 4096, x1 (ix3 b s x) * x1 (ix3 b s x)) (Ideal.ofBits .f32 0x45800000#32) + Ideal.ofBits .f32 0x358637BD#32)
      * x2 (ix1 n) := by
    pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rw [e]
  exact (h0 _).add (((h1 _).mul (isReal_rms fun x => h1 _)).mul (h2 _))

set_option maxHeartbeats 1000000 in
theorem query_real (h : ∀ (b : Fin 2) (s n : Fin 4096), IsReal (val_main_v13 (F := Ideal) x0 x1 x2 (ix3 b s n))) (h3 : ∀ i, IsReal (x3 i)) (h6 : ∀ i, IsReal (x6 i))
    (b : Fin 2) (i : Fin 4) (s : Fin 4096) (d : Fin 256) : IsReal (val_main_v31 (F := Ideal) x0 x1 x2 x3 x6 (ix4 b i s d)) := by
  have e : val_main_v31 (F := Ideal) x0 x1 x2 x3 x6 (ix4 b i s d) = (∑ x : Fin 4096, val_main_v13 (F := Ideal) x0 x1 x2 (ix3 b s x)
      * Ideal.rsqrt (Ideal.div (∑ x : Fin 4096, val_main_v13 (F := Ideal) x0 x1 x2 (ix3 b s x) * val_main_v13 (F := Ideal) x0 x1 x2 (ix3 b s x))
          (Ideal.ofBits .f32 0x45800000#32) + Ideal.ofBits .f32 0x358637BD#32)
      * x3 (ix1 x) * x6 (ix2 x ⟨i.val * 256 + d.val, by omega⟩)) * Ideal.ofBits .f32 0x3D800000#32 := by
    pointwise [val_main_v14, val_main_cst_2, val_main_v15, val_main_v16, val_main_cst_3, val_main_v17, val_main_v18, val_main_cst_4, val_main_v19, val_main_v20, val_main_v21, val_main_v22, val_main_v23, val_main_v24, val_main_v25, val_main_v26, val_main_v27, val_main_v28, val_main_v29, val_main_cst_5, val_main_v30, val_main_v31]
  rw [e, ofBits_sixteenth]
  exact (IsReal.sum _ fun x => (((h b s x).mul (isReal_rms fun x => h b s x)).mul (h3 _)).mul (h6 _)).mul (isReal_coe _)

end real

theorem slice0 {P0 P1 : Vec Ideal S256x4096 .f32} {P2 P3 : Vec Ideal S1x4096 .f32} {P4 : Vec Ideal S4096x1024 .bf16} (r e : Fin 256) :
    k0_pay5 P0 P1 P2 P3 P4 (ix2 r e) = k0_pay4 P0 P1 P2 P3 P4 (ix2 r ⟨e.val, by omega⟩) := by
  unfold k0_pay5
  generalize k0_pay4 P0 P1 P2 P3 P4 = y
  pointwise []

/-! ### One block -/

section block
variable {x0 x1 : FVec Ideal S2x4096x4096 .f32} {x2 x3 x4 x5 : FVec Ideal S4096 .f32} {x6 : FVec Ideal S4096x1024 .f32}
  {x7 : FVec Ideal S1024x4096 .f32} {x8 x9 : FVec Ideal S2x256x1024 .bf16} {X0 X1 : Vec Ideal S256x4096 .f32} {X2 : Vec Ideal S4x4096 .f32}
  {X3 : Vec Ideal S4096x1024 .bf16} {X4 : Vec Ideal S1024x4096 .bf16} {X5 X6 : Vec Ideal S256x1024 .bf16} {r : Fin 256} {b : Fin 2} {s : Fin 4096}

/-- A row of the first result's block is the reference's second residual. -/
theorem block_row (h0 : ∀ n, X0 (ix2 r n) = x0 (ix3 b s n)) (h1 : ∀ n, X1 (ix2 r n) = x1 (ix3 b s n)) (g0 : ∀ n, X2 (ix2 0 n) = x2 (ix1 n))
    (g1 : ∀ n, X2 (ix2 1 n) = x3 (ix1 n)) (g2 : ∀ n, X2 (ix2 2 n) = x4 (ix1 n)) (h3 : ∀ k n, X3 (ix2 k n) = x6 (ix2 k n))
    (h4 : ∀ k n, X4 (ix2 k n) = x7 (ix2 k n)) (h5 : ∀ x n, X5 (ix2 x n) = x8 (ix3 b x n)) (h6 : ∀ x n, X6 (ix2 x n) = x9 (ix3 b x n))
    (f0 : ∀ i, IsReal (x0 i)) (f1 : ∀ i, IsReal (x1 i)) (f2 : ∀ i, IsReal (x2 i)) (f3 : ∀ i, IsReal (x3 i)) (f6 : ∀ i, IsReal (x6 i)) (f8 : ∀ i, IsReal (x8 i))
    (n : Fin 4096) :
    k0_pay1 (k0_pay14 X0 X1 X2 X3 X4 X5 X6) (k0_pay20 X0 X1 X2 X3 X4 X5 X6) (k0_pay21 X0 X1 X2 X3 X4 X5 X6) (k0_pay22 X0 X1 X2 X3 X4 X5 X6)
      (k0_pay23 X0 X1 X2 X3 X4 X5 X6) (ix2 r n) = val_main_v67 (F := Ideal) x0 x1 x2 x3 x4 x6 x7 x8 x9 (ix3 b s n) := by
  have e0 : View.ld X0 r0_0 = X0 := View.ld_unit_zero (by funext a; fin_cases a <;> rfl) _ _
  have e1 : View.ld X1 r0_0 = X1 := View.ld_unit_zero (by funext a; fin_cases a <;> rfl) _ _
  have e3 : View.ld X3 r0_3 = X3 := View.ld_unit_zero (by funext a; fin_cases a <;> rfl) _ _
  have e4 : View.ld X4 r0_8 = X4 := View.ld_unit_zero (by funext a; fin_cases a <;> rfl) _ _
  have hA : ∀ n, k0_pay14 X0 X1 X2 X3 X4 X5 X6 (ix2 r n) = val_main_v13 (F := Ideal) x0 x1 x2 (ix3 b s n) := by
    unfold k0_pay14; rw [e0, e1]
    exact residual_row x0 x1 x2 h0 h1 fun n => (ld_gain0 X2 n).trans (g0 n)
  have hQ : ∀ (i : Fin 4) (d : Fin 256), k0_pay15 X0 X1 X2 X3 X4 X5 X6 (ix2 r ⟨i.val * 256 + d.val, by omega⟩)
      = val_main_v31 (F := Ideal) x0 x1 x2 x3 x6 (ix4 b i s d) := by
    unfold k0_pay14 at hA; rw [e0, e1] at hA
    unfold k0_pay15; rw [e0, e1, e3]
    exact query_row x0 x1 x2 x3 x6 hA (fun n => (ld_gain1 X2 n).trans (g1 n)) h3
  have rQ := query_real (x6 := x6) (residual_real f0 f1 f2) f3 f6
  have q0 : ∀ e : Fin 256, k0_pay5 (View.ld X0 r0_0) (View.ld X1 r0_0) (View.ld X2 r0_1) (View.ld X2 r0_2) (View.ld X3 r0_3) (ix2 r e)
      = k0_pay15 X0 X1 X2 X3 X4 X5 X6 (ix2 r ⟨e.val, by omega⟩) := fun e => slice0 r e
  have hd0 : ∀ d, k0_pay16 X0 X1 X2 X3 X4 X5 X6 (ix2 r d) = val_main_v50 (F := Ideal) x0 x1 x2 x3 x6 x8 x9 (ix4 b 0 s d) := fun d => by
    unfold k0_pay16
    rw [head0]
    refine head_ref x0 x1 x2 x3 x6 x8 x9 (fun e => (q0 e).trans ((congrArg _ ?_).trans (hQ 0 e))) (fun x e => (ld_head0 X5 x e).trans ((congrArg _ ?_).trans (h5 x _)))
      (fun x => (ld_head0 X6 x d).trans ((congrArg _ ?_).trans (h6 x _))) (fun e => ?_) (fun x e => ?_)
    · exact congrArg (ix2 r) (Fin.ext (by simp))
    · exact congrArg (ix2 x) (Fin.ext (by simp))
    · exact congrArg (ix2 x) (Fin.ext (by simp))
    · rw [q0]; have := rQ b 0 s e; rw [← hQ] at this; convert this using 3; simp
    · rw [ld_head0, h5]; exact f8 _
  have hd1 : ∀ d, k0_pay17 X0 X1 X2 X3 X4 X5 X6 (ix2 r d) = val_main_v50 (F := Ideal) x0 x1 x2 x3 x6 x8 x9 (ix4 b 1 s d) := fun d => by
    unfold k0_pay17
    rw [head1]
    exact head_ref x0 x1 x2 x3 x6 x8 x9 (fun e => hQ 1 e) (fun x e => (ld_head1 X5 x e).trans (h5 x _))
      (fun x => (ld_head1 X6 x d).trans (h6 x _)) (fun e => by have := rQ b 1 s e; rw [← hQ] at this; exact this) (fun x e => by rw [ld_head1, h5]; exact f8 _)
  have hB : ∀ n, k0_pay20 X0 X1 X2 X3 X4 X5 X6 (ix2 r n) = val_main_v53 (F := Ideal) x0 x1 x2 x3 x6 x7 x8 x9 (ix3 b s n) := by
    unfold k0_pay20 k0_pay18 k0_pay19
    rw [e4]
    refine product_row x0 x1 x2 x3 x6 x7 x8 x9 hd0 hd1 (fun d => ?_) (fun d => ?_) h4
    · exact head_ref x0 x1 x2 x3 x6 x8 x9 (fun e => hQ 2 e) (fun x e => (ld_head2 X5 x e).trans (h5 x _))
        (fun x => (ld_head2 X6 x d).trans (h6 x _)) (fun e => by have := rQ b 2 s e; rw [← hQ] at this; exact this) (fun x e => by rw [ld_head2, h5]; exact f8 _)
    · exact head_ref x0 x1 x2 x3 x6 x8 x9 (fun e => hQ 3 e) (fun x e => (ld_head3 X5 x e).trans (h5 x _))
        (fun x => (ld_head3 X6 x d).trans (h6 x _)) (fun e => by have := rQ b 3 s e; rw [← hQ] at this; exact this) (fun x e => by rw [ld_head3, h5]; exact f8 _)
  have e22 : k0_pay22 X0 X1 X2 X3 X4 X5 X6 = squares (k0_pay20 X0 X1 X2 X3 X4 X5 X6) := by unfold k0_pay22 k0_pay12 squares k0_pay20; rfl
  rw [e22]
  unfold k0_pay21 k0_pay23
  exact second_row x0 x1 x2 x3 x4 x6 x7 x8 x9 hA hB (fun n => (ld_gain2 X2 n).trans (g2 n)) n

end block

/-! ### The two result arrays -/

/-- The first result as the reference computes it. -/
abbrev REF0 (c : Dev nD) : FVec Ideal S8192x4096 .f32 := val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))

/-- The second result as the reference computes it. -/
abbrev REF1 (c : Dev nD) : FVec Ideal S8192x4096 .bf16 := val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The arrays the scores are computed from hold real numbers. -/
structure RealScores (c : Dev nD) : Prop where
  r0 : ∀ i, IsReal (m ((c : Thread nD τ).loc main_arg0) i)
  r1 : ∀ i, IsReal (m ((c : Thread nD τ).loc main_arg1) i)
  r2 : ∀ i, IsReal (m ((c : Thread nD τ).loc main_arg2) i)
  r3 : ∀ i, IsReal (m ((c : Thread nD τ).loc main_arg3) i)
  r6 : ∀ i, IsReal (m ((c : Thread nD τ).loc main_arg6) i)
  r8 : ∀ i, IsReal (m ((c : Thread nD τ).loc main_arg8) i)

theorem point_row (c : Dev nD) (R : RealScores m c) (t : Fin cfg0.N) (r : Fin 256) (b : Fin 2) (s : Fin 4096) (h : t.val * 256 + r.val = b.val * 4096 + s.val)
    (n : Fin 4096) :
    k0_pay1 (k0_pay14 (iblk m c 0 t) (iblk m c 1 t) (iblk m c 2 t) (iblk m c 3 t) (iblk m c 4 t) (iblk m c 5 t) (iblk m c 6 t)) (k0_pay20 (iblk m c 0 t) (iblk m c 1 t) (iblk m c 2 t) (iblk m c 3 t) (iblk m c 4 t) (iblk m c 5 t) (iblk m c 6 t)) (k0_pay21 (iblk m c 0 t) (iblk m c 1 t) (iblk m c 2 t) (iblk m c 3 t) (iblk m c 4 t) (iblk m c 5 t) (iblk m c 6 t)) (k0_pay22 (iblk m c 0 t) (iblk m c 1 t) (iblk m c 2 t) (iblk m c 3 t) (iblk m c 4 t) (iblk m c 5 t) (iblk m c 6 t)) (k0_pay23 (iblk m c 0 t) (iblk m c 1 t) (iblk m c 2 t) (iblk m c 3 t) (iblk m c 4 t) (iblk m c 5 t) (iblk m c 6 t)) (ix2 r n)
      = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (ix3 b s n) := by
  have hb : t.val / 16 = b.val := by omega
  exact block_row (rows0 m c t r b s h) (rows1 m c t r b s h) (gain0 m c t) (gain1 m c t) (gain2 m c t) (queries m c t) (outputs m c t) (keys m c t b hb)
    (values m c t b hb) R.r0 R.r1 R.r2 R.r3 R.r6 R.r8 n

theorem point7 (c : Dev nD) (R : RealScores m c) (t : Fin cfg0.N) (y : S256x4096.Idx) (j : S8192x4096.Idx)
    (h0 : (j 0 : Nat) = t.val * 256 + y 0) (h1 : (j 1 : Nat) = y 1) :
    k0_pay1 (k0_pay14 (iblk m c 0 t) (iblk m c 1 t) (iblk m c 2 t) (iblk m c 3 t) (iblk m c 4 t) (iblk m c 5 t) (iblk m c 6 t)) (k0_pay20 (iblk m c 0 t) (iblk m c 1 t) (iblk m c 2 t) (iblk m c 3 t) (iblk m c 4 t) (iblk m c 5 t) (iblk m c 6 t)) (k0_pay21 (iblk m c 0 t) (iblk m c 1 t) (iblk m c 2 t) (iblk m c 3 t) (iblk m c 4 t) (iblk m c 5 t) (iblk m c 6 t)) (k0_pay22 (iblk m c 0 t) (iblk m c 1 t) (iblk m c 2 t) (iblk m c 3 t) (iblk m c 4 t) (iblk m c 5 t) (iblk m c 6 t)) (k0_pay23 (iblk m c 0 t) (iblk m c 1 t) (iblk m c 2 t) (iblk m c 3 t) (iblk m c 4 t) (iblk m c 5 t) (iblk m c 6 t)) y = REF0 m c j := by
  have hj : (j 0 : Nat) < 8192 := (j 0).isLt
  have p := point_row m c R t (y 0) ⟨(j 0).val / 4096, by omega⟩ ⟨(j 0).val % 4096, by omega⟩ (by simp only; omega) (y 1)
  have hy : y = ix2 (y 0) (y 1) := by funext a; fin_cases a <;> rfl
  rw [hy]
  refine p.trans ?_
  unfold REF0
  rw [val_main_v68_apply]
  refine congrArg _ (funext fun a => ?_)
  have hj1 : (j 1 : Nat) < 4096 := (j 1).isLt
  match a with
  | ⟨0, _⟩ => exact Fin.ext (show (j 0).val / 4096 = ((j 0).val * 4096 + (j 1).val) / 16777216 by omega)
  | ⟨1, _⟩ => exact Fin.ext (show (j 0).val % 4096 = ((j 0).val * 4096 + (j 1).val) / 4096 % 4096 by omega)
  | ⟨2, _⟩ => exact Fin.ext (show (y 1).val = ((j 0).val * 4096 + (j 1).val) % 4096 by omega)

theorem point8 (c : Dev nD) (R : RealScores m c) (t : Fin cfg0.N) (y : S256x4096.Idx) (j : S8192x4096.Idx)
    (h0 : (j 0 : Nat) = t.val * 256 + y 0) (h1 : (j 1 : Nat) = y 1) :
    k0_pay2 (k0_pay14 (iblk m c 0 t) (iblk m c 1 t) (iblk m c 2 t) (iblk m c 3 t) (iblk m c 4 t) (iblk m c 5 t) (iblk m c 6 t)) (k0_pay20 (iblk m c 0 t) (iblk m c 1 t) (iblk m c 2 t) (iblk m c 3 t) (iblk m c 4 t) (iblk m c 5 t) (iblk m c 6 t)) (k0_pay21 (iblk m c 0 t) (iblk m c 1 t) (iblk m c 2 t) (iblk m c 3 t) (iblk m c 4 t) (iblk m c 5 t) (iblk m c 6 t)) (k0_pay22 (iblk m c 0 t) (iblk m c 1 t) (iblk m c 2 t) (iblk m c 3 t) (iblk m c 4 t) (iblk m c 5 t) (iblk m c 6 t)) (k0_pay23 (iblk m c 0 t) (iblk m c 1 t) (iblk m c 2 t) (iblk m c 3 t) (iblk m c 4 t) (iblk m c 5 t) (iblk m c 6 t)) (View.ld (iblk m c 2 t) r0_10) y = REF1 m c j := by
  have hj : (j 0 : Nat) < 8192 := (j 0).isLt
  have p := point_row m c R t (y 0) ⟨(j 0).val / 4096, by omega⟩ ⟨(j 0).val % 4096, by omega⟩ (by simp only; omega)
  have hy : y = ix2 (y 0) (j 1) := by funext a; fin_cases a <;> first | rfl | exact Fin.ext h1.symm
  rw [hy]
  exact normed_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p (fun n => (ld_gain3 _ n).trans (gain3 m c t n)) j rfl rfl

/-- The first result array after the last grid point is the reference's term. -/
theorem final7 (c : Dev nD) (R : RealScores m c) : (dats m 0 c).arrAt 7 cfg0.N = REF0 m c := by
  refine (dats m 0 c).arrAt_eq_of_covers 7 _ (by decide +kernel) fun t _ y => ?_
  blk_simp
  rw [after0_7]; frame_out
  refine point7 m c R t y _ ?_ ?_ <;> blk_simp [idx t]

/-- The second result array after the last grid point is the reference's term. -/
theorem final8 (c : Dev nD) (R : RealScores m c) : (dats m 0 c).arrAt 8 cfg0.N = REF1 m c := by
  refine (dats m 0 c).arrAt_eq_of_covers 8 _ (by decide +kernel) fun t _ y => ?_
  blk_simp
  rw [after0_8]; frame_out
  refine point8 m c R t y _ ?_ ?_ <;> blk_simp [idx t]

end Cert.AttnIdeal.RefValue
-- ==== Proof.GateValue.lean ====
/- Hand-written, untrusted: the gated product of the SwiGLU layer, `GateIdeal`, read as one function of its argument
   arrays. A grid point writes one block of 2048 rows by 256 lanes: the two products of the row block with the two weight
   blocks, the first through `silu`, multiplied. Each block is the block of the reference's own term, and the blocks tile
   the result array. -/
module

public import proofs.«01_k».proof.Proof.Gen.GateIdeal.Value
public import proofs.«01_k».proof.Proof.Gen.GateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.RefValue

open Cert.GateIdeal Cert.GateIdeal.Gen

variable (m : (ℓ : Loc nD τ sig) → Buf (Elt Ideal) ℓ)

/-- The reference's term: `silu (x wg) * (x wu)` of the whole arrays. -/
abbrev REF (x : FVec Ideal S2x4096x4096 .bf16) (wg wu : FVec Ideal S2x4096x11008 .f32) : FVec Ideal S8192x11008 .bf16 :=
  Cert.GateRefIdeal.Read.val_main_v10 (F := Ideal) x wg wu

/-- Every window's block index in closed form: 43 column blocks to a row block. -/
theorem idx : ∀ t : Fin cfg0.N, win0_0.index t = ![t.val / 43, 0] ∧ win0_1.index t = ![0, 0, t.val % 43]
    ∧ win0_2.index t = ![0, 0, t.val % 43] ∧ win0_3.index t = ![t.val / 43, t.val % 43] :=
  (by decide +kernel : ∀ t : Fin grid0.N, _)

open Cert.GateRefIdeal.Read in
set_option maxHeartbeats 1000000 in
/-- What a point stores at an index of its block is the reference's term at the index where the block sits. -/
theorem point (c : Dev nD) (t : Fin cfg0.N) (y : S2048x256.Idx) (j : S8192x11008.Idx)
    (h0 : (j 0 : Nat) = t.val / 43 * 2048 + y 0) (h1 : (j 1 : Nat) = t.val % 43 * 256 + y 1) :
    k0_pay1 (iblk m c 0 t) (iblk m c 1 t) (iblk m c 2 t) y
      = REF (m ((c : Thread nD τ).loc main_arg0)) (m ((c : Thread nD τ).loc main_arg1)) (m ((c : Thread nD τ).loc main_arg2)) j := by
  pointwise [k0_pay1, REF, val_main_v10, val_main_v9, val_main_v8, val_main_v7, val_main_v6, val_main_v5, val_main_v4,
    val_main_v3, val_main_v2, val_main_v1, val_main_v0, val_main_call0_v0, val_main_call0_v1, val_main_call0_v2, val_main_call0_v3,
    val_main_call0_v4, val_main_call0_v5, val_main_call0_cst, val_main_call0_cst_0]
  rw [zero_sub]
  blk_point [iblk, V, idx t]

/-- The result array after the run is the reference's term of the argument arrays. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine point m c t y _ ?_ ?_ <;> blk_simp [idx t]

end Cert.GateIdeal.RefValue

end
-- ==== Proof.DownValue.lean ====
/- Hand-written, untrusted: the FFN's down projection, `DownIdeal`, read as one function of its argument arrays. The
   contraction of length 11008 is cut into ten blocks of 1024 lanes, one per grid point of a run, and a tail of three
   blocks of 256 lanes that the run's first point adds. A run of ten points leaves one block of 2048 by 1024 of the whole
   product. -/
module

public import proofs.«01_k».proof.Proof.Gen.DownIdeal.Value
public import proofs.«01_k».proof.Proof.Gen.DownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.RefValue

open Cert.DownIdeal Cert.DownIdeal.Gen

variable (m : (ℓ : Loc nD τ sig) → Buf (Elt Ideal) ℓ)

/-- The reference's term: the whole product. -/
abbrev REF (x : FVec Ideal S8192x11008 .bf16) (w : FVec Ideal S2x11008x4096 .f32) : FVec Ideal S8192x4096 .f32 :=
  Cert.DownRefIdeal.Read.val_main_v3 (F := Ideal) x w

/-- Every window's block index in closed form: ten points to a block of the result, four blocks to a row block. -/
theorem idx : ∀ t : Fin cfg0.N, win0_0.index t = ![t.val / 40, t.val % 10] ∧ win0_1.index t = ![0, t.val % 10, t.val / 10 % 4]
    ∧ win0_2.index t = ![t.val / 40, 40] ∧ win0_3.index t = ![t.val / 40, 41] ∧ win0_4.index t = ![t.val / 40, 42]
    ∧ win0_5.index t = ![0, 40, t.val / 10 % 4] ∧ win0_6.index t = ![0, 41, t.val / 10 % 4]
    ∧ win0_7.index t = ![0, 42, t.val / 10 % 4] ∧ win0_8.index t = ![t.val / 40, t.val / 10 % 4] :=
  (by decide +kernel : ∀ t : Fin grid0.N, _)

/-- The block of rows at a point, entry by entry: no block the grid reaches is cut. -/
theorem row_block (c : Dev nD) (t : Fin cfg0.N) (r : Fin 2048) (k : Fin 1024) (i : S8192x11008.Idx)
    (h0 : (i 0 : Nat) = t.val / 40 * 2048 + r) (h1 : (i 1 : Nat) = t.val % 10 * 1024 + k) :
    X0_0 m c t (ix2 r k : S2048x1024.Idx) = m ((c : Thread nD τ).loc main_arg0) i := by
  unfold X0_0 Pipeline.Window.fill
  rw [dif_pos (moved0_0 t _)]
  blk_point [iblk, V, idx t]

/-- The block of weights at a point, entry by entry. -/
theorem weight_block (c : Dev nD) (t : Fin cfg0.N) (k : Fin 1024) (r : Fin 1024) (i : S2x11008x4096.Idx)
    (h : (i 0 : Nat) = 0) (h0 : (i 1 : Nat) = t.val % 10 * 1024 + k) (h1 : (i 2 : Nat) = t.val / 10 % 4 * 1024 + r) :
    X0_1 m c t (ix3 0 k r : S1x1024x1024.Idx) = m ((c : Thread nD τ).loc main_arg1) i := by
  unfold X0_1 Pipeline.Window.fill
  rw [dif_pos (moved0_1 t _)]
  blk_point [iblk, V, idx t]

/-- The products of a block of rows and a block of weights, at an index of the result's block. -/
def part (x : S2048x1024.Idx → EReal) (w : S1x1024x1024.Idx → EReal) (y : S2048x1024.Idx) : EReal :=
  ∑ k : Fin 1024, x (ix2 (y 0) k) * w (ix3 0 k (y 1))

/-- The products of the tail, three blocks of 256 lanes laid one after another on both sides. -/
def tail (x2 x3 x4 : S2048x256.Idx → EReal) (x5 x6 x7 : S1x256x1024.Idx → EReal) (y : S2048x1024.Idx) : EReal :=
  ∑ k : Fin 768,
    (if h : k.val < 256 then x2 (ix2 (y 0) ⟨k.val, h⟩)
      else if h' : k.val - 256 < 256 then x3 (ix2 (y 0) ⟨k.val - 256, h'⟩)
      else x4 (ix2 (y 0) ⟨k.val - 256 - 256, by have := k.isLt; omega⟩)) *
    (if h : k.val < 256 then x5 (ix3 0 ⟨k.val, h⟩ (y 1))
      else if h' : k.val - 256 < 256 then x6 (ix3 0 ⟨k.val - 256, h'⟩ (y 1))
      else x7 (ix3 0 ⟨k.val - 256 - 256, by have := k.isLt; omega⟩ (y 1)))

/-- A later point adds its own products to what the block held. -/
theorem pay2 (acc : Vec Ideal S2048x1024 .f32) (x : Vec Ideal S2048x1024 .bf16) (w : Vec Ideal S1x1024x1024 .f32)
    (y : S2048x1024.Idx) : k0_pay2 acc x w y = acc y + part x w y := by
  pointwise [k0_pay2, part]
  done

/-- A run's first point stores its own products and the tail's. -/
theorem pay1 (x2 x3 x4 : Vec Ideal S2048x256 .bf16) (x5 x6 x7 : Vec Ideal S1x256x1024 .f32)
    (x : Vec Ideal S2048x1024 .bf16) (w : Vec Ideal S1x1024x1024 .f32) (y : S2048x1024.Idx) :
    k0_pay1 x2 x3 x4 x5 x6 x7 x w y = part x w y + tail x2 x3 x4 x5 x6 x7 y := by
  pointwise [k0_pay1, part, tail]
  done

/-- The row of the left operand that a result entry reads, and the column of the right one. -/
def lhs (c : Dev nD) (j : S8192x4096.Idx) (k : Fin 11008) : EReal := m ((c : Thread nD τ).loc main_arg0) (ix2 (j 0) k : S8192x11008.Idx)
@[inherit_doc lhs]
def rhs (c : Dev nD) (j : S8192x4096.Idx) (k : Fin 11008) : EReal := m ((c : Thread nD τ).loc main_arg1) (ix3 0 k (j 1) : S2x11008x4096.Idx)

/-- The tail's products at a point are the last 768 of the reference's. -/
theorem tail_point (c : Dev nD) (t : Fin cfg0.N) (y : S2048x1024.Idx) (j : S8192x4096.Idx)
    (h0 : (j 0 : Nat) = t.val / 40 * 2048 + y 0) (h1 : (j 1 : Nat) = t.val / 10 % 4 * 1024 + y 1) :
    tail (iblk m c 2 t) (iblk m c 3 t) (iblk m c 4 t) (iblk m c 5 t) (iblk m c 6 t) (iblk m c 7 t) y
      = ∑ k : Fin 768, lhs m c j (Fin.natAdd 10240 k) * rhs m c j (Fin.natAdd 10240 k) := by
  refine Finset.sum_congr rfl fun k _ => ?_
  have hk : (Fin.natAdd 10240 k).val = 10240 + k.val := rfl
  unfold lhs rhs
  blk_point [iblk, V, idx t]

/-- What a point contributes to its block: its products, and at a run's first point the tail's. -/
def term (c : Dev nD) (t : Fin cfg0.N) (y : S2048x1024.Idx) : EReal :=
  part (X0_0 m c t) (X0_1 m c t) y
    + if t.val % 10 = 0 then tail (iblk m c 2 t) (iblk m c 3 t) (iblk m c 4 t) (iblk m c 5 t) (iblk m c 6 t) (iblk m c 7 t) y else 0

open Cert.DownRefIdeal.Read in
set_option maxHeartbeats 1000000 in
/-- The contributions of a run of ten points add up to the reference's product. -/
theorem point (c : Dev nD) (t : Fin cfg0.N) (hf : t.val % 10 = 9) (y : S2048x1024.Idx) (j : S8192x4096.Idx)
    (h0 : (j 0 : Nat) = t.val / 40 * 2048 + y 0) (h1 : (j 1 : Nat) = t.val / 10 % 4 * 1024 + y 1) :
    ∑ s : Fin 10, term m c ⟨10 * (t.val / 10) + s.val, Pipeline.run_point_lt_of_flush t hf s⟩ y
      = REF (m ((c : Thread nD τ).loc main_arg0)) (m ((c : Thread nD τ).loc main_arg1)) j := by
  unfold term
  rw [Finset.sum_add_distrib]
  have hz : ∀ s : Fin 10, s ∈ Finset.univ → s ≠ 0 → (if (10 * (t.val / 10) + s.val) % 10 = 0 then
      tail (iblk m c 2 ⟨10 * (t.val / 10) + s.val, Pipeline.run_point_lt_of_flush t hf s⟩)
        (iblk m c 3 ⟨10 * (t.val / 10) + s.val, Pipeline.run_point_lt_of_flush t hf s⟩)
        (iblk m c 4 ⟨10 * (t.val / 10) + s.val, Pipeline.run_point_lt_of_flush t hf s⟩)
        (iblk m c 5 ⟨10 * (t.val / 10) + s.val, Pipeline.run_point_lt_of_flush t hf s⟩)
        (iblk m c 6 ⟨10 * (t.val / 10) + s.val, Pipeline.run_point_lt_of_flush t hf s⟩)
        (iblk m c 7 ⟨10 * (t.val / 10) + s.val, Pipeline.run_point_lt_of_flush t hf s⟩) y else (0 : EReal)) = 0 := fun s _ hs => if_neg fun h => hs (Fin.ext (by
    have := s.isLt; show s.val = 0; omega))
  have hsum := Finset.sum_eq_single (0 : Fin 10) hz (fun h => absurd (Finset.mem_univ _) h)
  refine (congrArg (_ + ·) hsum).trans ?_
  rw [if_pos (show (10 * (t.val / 10) + (0 : Fin 10).val) % 10 = 0 from Nat.mul_mod_right 10 _)]
  pointwise [REF, val_main_v3, val_main_v2, val_main_v1, val_main_v0]
  refine Eq.trans ?_ (Fin.sum_univ_add (a := 10240) (b := 768) _).symm
  refine congr (congrArg _ ?_) ?_
  · refine Fin.sum_mul_add_congr fun s k hl => ?_
    have hs := s.isLt
    refine congr (congrArg _ (row_block m c _ (y 0) k _ ?_ ?_)) (weight_block m c _ k (y 1) _ rfl ?_ ?_)
    · show (j 0).val = (10 * (t.val / 10) + s.val) / 40 * 2048 + (y 0).val; omega
    · show s.val * 1024 + k.val = (10 * (t.val / 10) + s.val) % 10 * 1024 + k.val; omega
    · show s.val * 1024 + k.val = (10 * (t.val / 10) + s.val) % 10 * 1024 + k.val; omega
    · show (j 1).val = (10 * (t.val / 10) + s.val) / 10 % 4 * 1024 + (y 1).val; omega
  · refine tail_point m c ⟨10 * (t.val / 10), Pipeline.run_point_lt_of_flush t hf 0⟩ y j ?_ ?_
    · show (j 0).val = 10 * (t.val / 10) / 40 * 2048 + (y 0).val; omega
    · show (j 1).val = 10 * (t.val / 10) / 10 % 4 * 1024 + (y 1).val; omega

/-- The result array after the last grid point is the reference's product. -/
theorem final (c : Dev nD) : (dats m 0 c).arrAt 8 cfg0.N
    = REF (m ((c : Thread nD τ).loc main_arg0)) (m ((c : Thread nD τ).loc main_arg1)) := by
  refine (dats m 0 c).arrAt_eq_of_covers 8 _ (by decide +kernel) fun t hf y => ?_
  have hf' := (flush0_8 t).mp hf
  blk_simp
  rw [after0_8, Pipeline.eq_sum_fin_of_reset_step_apply_of_flush (fun n h => outsAt0 m c n h) 10 (fun _ => 0) (term m c)
    (fun t h j => by
      rw [outsAt0_A m c t h (by omega)]; frame_out
      rw [pay1, term, if_pos h, zero_add])
    (fun t h j => by
      rw [outsAt0_B m c t h (by omega)]; frame_out
      rw [pay2, term, if_neg h, add_zero])
    t hf' _, zero_add]
  refine point m c t hf' y _ ?_ ?_ <;> blk_simp [idx t]

end Cert.DownIdeal.RefValue
-- ==== Proof.LastValue.lean ====
/- Hand-written, untrusted: the residual sum with the normed branch that ends the last layer, `LastIdeal`, read as one
   function of its argument arrays. A grid point writes 256 whole rows, so each row's mean square is formed inside one block. -/
module

public import proofs.«01_k».proof.Proof.Gen.LastIdeal.Value
public import proofs.«01_k».proof.Proof.Gen.LastRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LastIdeal.RefValue

open Cert.LastIdeal Cert.LastIdeal.Gen

variable (m : (ℓ : Loc nD τ sig) → Buf (Elt Ideal) ℓ)

/-- The reference's term: `h + rms_norm ff * g` of the whole arrays. -/
abbrev REF (h ff : FVec Ideal S2x4096x4096 .f32) (g : FVec Ideal S4096 .f32) : FVec Ideal S8192x4096 .f32 :=
  Cert.LastRefIdeal.Read.val_main_v14 (F := Ideal) h ff g

/-- Every window's block index in closed form: point `t` has the `t`-th block of rows, and the one block of gains. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

open Cert.LastRefIdeal.Read in
set_option maxHeartbeats 1000000 in
/-- What a point stores at an index of its block is the reference's term at the index where the block sits. -/
theorem point (c : Dev nD) (t : Fin cfg0.N) (y : S256x4096.Idx) (j : S8192x4096.Idx)
    (h0 : (j 0 : Nat) = t.val * 256 + y 0) (h1 : (j 1 : Nat) = y 1) :
    k0_pay1 (iblk m c 0 t) (iblk m c 1 t) (iblk m c 2 t) y
      = REF (m ((c : Thread nD τ).loc main_arg0)) (m ((c : Thread nD τ).loc main_arg1)) (m ((c : Thread nD τ).loc main_arg2)) j := by
  pointwise [k0_pay1, REF, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1]
  blk_point [iblk, V, idx t]

/-- The result array after the last grid point is the reference's term. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine point m c t y _ ?_ ?_ <;> blk_simp [idx t]

end Cert.LastIdeal.RefValue
-- ==== Proof.NormValue.lean ====
/- Hand-written, untrusted: the norm of the rows before the mixers, `NormIdeal`, read as one function of its argument arrays.
   A grid point writes 256 whole rows. -/
module

public import proofs.«01_k».proof.Proof.Gen.NormIdeal.Value
public import proofs.«01_k».proof.Proof.Gen.NormRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormIdeal.RefValue

open Cert.NormIdeal Cert.NormIdeal.Gen

variable (m : (ℓ : Loc nD τ sig) → Buf (Elt Ideal) ℓ)

/-- The reference's term: `rms_norm h * g`. -/
abbrev REF (x0 : FVec Ideal S2x4096x4096 .f32) (x1 : FVec Ideal S4096 .f32) : FVec Ideal S8192x4096 .bf16 :=
  Cert.NormRefIdeal.Read.val_main_v14 (F := Ideal) x0 x1

/-- Every window's block index in closed form. -/
theorem idx : ∀ t : Fin cfg0.N, win0_0.index t = ![t.val, 0]
    ∧ win0_1.index t = ![0, 0]
    ∧ win0_2.index t = ![t.val, 0] :=
  (by decide +kernel : ∀ t : Fin grid0.N, _)

open Cert.NormRefIdeal.Read in
set_option maxHeartbeats 1000000 in
/-- What a point stores at an index of its block is the reference's term at the index where the block sits. -/
theorem point (c : Dev nD) (t : Fin cfg0.N) (y : S256x4096.Idx) (j : S8192x4096.Idx)
    (h0 : (j 0 : Nat) = t.val * 256 + y 0) (h1 : (j 1 : Nat) = y 1) :
    k0_pay1 (iblk m c 0 t) (iblk m c 1 t) y
      = REF (m ((c : Thread nD τ).loc main_arg0)) (m ((c : Thread nD τ).loc main_arg1)) j := by
  pointwise [k0_pay1, REF, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The result array after the run is the reference's term of the argument arrays. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t]

end Cert.NormIdeal.RefValue

end
-- ==== Proof.InProjValue.lean ====
/- Hand-written, untrusted: the columns 8192 and up of the input projection, `InProjIdeal`, read as one function of its argument arrays.
   A grid point writes one block of 2048 rows by 512 lanes, with the whole inner dimension inside the point. -/
module

public import proofs.«01_k».proof.Proof.Gen.InProjIdeal.Value
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen

variable (m : (ℓ : Loc nD τ sig) → Buf (Elt Ideal) ℓ)

/-- The reference's term: the columns 8192 and up of `a w_in`. -/
abbrev REF (x0 : FVec Ideal S2x4096x4096 .bf16) (x1 : FVec Ideal S2x4096x14336 .f32) : FVec Ideal S8192x6144 .f32 :=
  Cert.InProjRefIdeal.Read.val_main_v5 (F := Ideal) x0 x1

/-- Every window's block index in closed form: 12 column blocks to a row block; the weight's begin at its 16th block of 512 columns. -/
theorem idx : ∀ t : Fin cfg0.N, win0_0.index t = ![t.val / 12, 0]
    ∧ win0_1.index t = ![0, 0, 16 + t.val % 12]
    ∧ win0_2.index t = ![t.val / 12, t.val % 12] :=
  (by decide +kernel : ∀ t : Fin grid0.N, _)

open Cert.InProjRefIdeal.Read in
set_option maxHeartbeats 1000000 in
/-- What a point stores at an index of its block is the reference's term at the index where the block sits. -/
theorem point (c : Dev nD) (t : Fin cfg0.N) (y : S2048x512.Idx) (j : S8192x6144.Idx)
    (h0 : (j 0 : Nat) = t.val / 12 * 2048 + y 0) (h1 : (j 1 : Nat) = t.val % 12 * 512 + y 1) :
    k0_pay1 (iblk m c 0 t) (iblk m c 1 t) y
      = REF (m ((c : Thread nD τ).loc main_arg0)) (m ((c : Thread nD τ).loc main_arg1)) j := by
  pointwise [k0_pay1, REF, val_main_v5, val_main_v4, val_main_v3, val_main_v2, val_main_v1, val_main_v0]
  blk_point [iblk, V, idx t]

/-- The result array after the run is the reference's term of the argument arrays. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t]

end Cert.InProjIdeal.RefValue

end
-- ==== Proof.OutProjValue.lean ====
/- Hand-written, untrusted: the output projection of the mixers, `OutProjIdeal`, read as one function of its argument arrays. The inner
   dimension of 4096 is cut into the three head groups, 2048, 1024 and 1024 wide, whose products a point adds; the reference
   joins the groups and multiplies once. -/
module

public import proofs.«01_k».proof.Proof.Gen.OutProjIdeal.Value
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen

variable (m : (ℓ : Loc nD τ sig) → Buf (Elt Ideal) ℓ)

/-- The reference's term: the three groups joined, times `w_out`. -/
abbrev REF (x0 : FVec Ideal S2x4096x2048 .bf16) (x1 x2 : FVec Ideal S2x4096x1024 .bf16) (x3 : FVec Ideal S2x4096x4096 .f32) : FVec Ideal S8192x4096 .f32 :=
  Cert.OutProjRefIdeal.Read.val_main_v5 (F := Ideal) x0 x1 x2 x3

/-- Every window's block index in closed form: 8 column blocks to a row block. -/
theorem idx : ∀ t : Fin cfg0.N, win0_0.index t = ![t.val / 8, 0] ∧ win0_1.index t = ![t.val / 8, 0]
    ∧ win0_2.index t = ![t.val / 8, 0] ∧ win0_3.index t = ![0, 0, t.val % 8] ∧ win0_4.index t = ![t.val / 8, t.val % 8] :=
  (by decide +kernel : ∀ t : Fin grid0.N, _)

open Cert.OutProjRefIdeal.Read in
set_option maxHeartbeats 1000000 in
/-- What a point stores at an index of its block is the reference's term at the index where the block sits. -/
theorem point (c : Dev nD) (t : Fin cfg0.N) (y : S2048x512.Idx) (j : S8192x4096.Idx)
    (h0 : (j 0 : Nat) = t.val / 8 * 2048 + y 0) (h1 : (j 1 : Nat) = t.val % 8 * 512 + y 1) :
    k0_pay1 (iblk m c 0 t) (View.ld (iblk m c 3 t) r0_1) (iblk m c 1 t) (View.ld (iblk m c 3 t) r0_3) (iblk m c 2 t) (View.ld (iblk m c 3 t) r0_4) y
      = REF (m ((c : Thread nD τ).loc main_arg0)) (m ((c : Thread nD τ).loc main_arg1)) (m ((c : Thread nD τ).loc main_arg2)) (m ((c : Thread nD τ).loc main_arg3)) j := by
  pointwise [k0_pay1, REF, val_main_v5, val_main_v4, val_main_v3, val_main_v2, val_main_v1, val_main_v0]
  refine Eq.trans ?_ (Fin.sum_univ_add (a := 3072) (b := 1024) _).symm
  refine congr (congrArg _ ?_) ?_
  · refine Eq.trans ?_ (Fin.sum_univ_add (a := 2048) (b := 1024) _).symm
    refine congr (congrArg _ ?_) ?_
    · refine Finset.sum_congr rfl fun k _ => ?_
      have hk : (Fin.castAdd 1024 (Fin.castAdd 1024 k)).val = k.val := rfl
      have hl := k.isLt
      rw [dif_pos (show (Fin.castAdd 1024 (Fin.castAdd 1024 k)).val < 2048 by omega)]
      blk_point [iblk, V, idx t]
    · refine Finset.sum_congr rfl fun k _ => ?_
      have hk : (Fin.castAdd 1024 (Fin.natAdd 2048 k)).val = 2048 + k.val := rfl
      have hl := k.isLt
      rw [dif_neg (show ¬ (Fin.castAdd 1024 (Fin.natAdd 2048 k)).val < 2048 by omega),
        dif_pos (show (Fin.castAdd 1024 (Fin.natAdd 2048 k)).val - 2048 < 1024 by omega)]
      blk_point [iblk, V, idx t]
  · refine Finset.sum_congr rfl fun k _ => ?_
    have hk : (Fin.natAdd 3072 k).val = 3072 + k.val := rfl
    have hl := k.isLt
    rw [dif_neg (show ¬ (Fin.natAdd 3072 k).val < 2048 by omega), dif_neg (show ¬ (Fin.natAdd 3072 k).val - 2048 < 1024 by omega)]
    blk_point [iblk, V, idx t]

/-- The result array after the run is the reference's term of the argument arrays. -/
theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  refine point m c t y _ ?_ ?_ <;> blk_simp [idx t]

end Cert.OutProjIdeal.RefValue

end
-- ==== Proof.MemProjValue.lean ====
/- Hand-written, untrusted: the projection of the memory tokens, `MemProjIdeal`, read as one function of its argument arrays.
   A grid point writes one block of 512 rows by 512 lanes, with the whole inner dimension inside the point. -/
module

public import proofs.«01_k».proof.Proof.Gen.MemProjIdeal.Value
public import proofs.«01_k».proof.Proof.Gen.MemProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemProjIdeal.RefValue

open Cert.MemProjIdeal Cert.MemProjIdeal.Gen

variable (m : (ℓ : Loc nD τ sig) → Buf (Elt Ideal) ℓ)

/-- The reference's term: `mem_n w`. -/
abbrev REF (x0 : FVec Ideal S2x256x4096 .bf16) (x1 : FVec Ideal S2x4096x1024 .f32) : FVec Ideal S512x1024 .bf16 :=
  Cert.MemProjRefIdeal.Read.val_main_v5 (F := Ideal) x0 x1

/-- Every window's block index in closed form: two column blocks. -/
theorem idx : ∀ t : Fin cfg0.N, win0_0.index t = ![0, 0]
    ∧ win0_1.index t = ![0, 0, t.val]
    ∧ win0_2.index t = ![0, t.val] :=
  (by decide +kernel : ∀ t : Fin grid0.N, _)

open Cert.MemProjRefIdeal.Read in
set_option maxHeartbeats 1000000 in
/-- What a point stores at an index of its block is the reference's term at the index where the block sits. -/
theorem point (c : Dev nD) (t : Fin cfg0.N) (y : S512x512.Idx) (j : S512x1024.Idx)
    (h0 : (j 0 : Nat) = y 0) (h1 : (j 1 : Nat) = t.val * 512 + y 1) :
    k0_pay1 (iblk m c 0 t) (iblk m c 1 t) y
      = REF (m ((c : Thread nD τ).loc main_arg0)) (m ((c : Thread nD τ).loc main_arg1)) j := by
  pointwise [k0_pay1, REF, val_main_v5, val_main_v4, val_main_v3, val_main_v2, val_main_v1, val_main_v0]
  blk_point [iblk, V, idx t]

/-- The result array after the run is the reference's term of the argument arrays. -/
theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t]

end Cert.MemProjIdeal.RefValue

end
-- ==== Proof.NextValue.lean ====
/- Hand-written, untrusted: the residual sum with the normed branch that ends a layer and the norm that begins the next, `NextIdeal`, read as two
   functions of its argument arrays. A grid point writes 256 whole rows of each. -/
module

public import proofs.«01_k».proof.Proof.Gen.NextIdeal.Value
public import proofs.«01_k».proof.Proof.Gen.NextRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NextIdeal.RefValue

open Cert.NextIdeal Cert.NextIdeal.Gen

variable (m : (ℓ : Loc nD τ sig) → Buf (Elt Ideal) ℓ)

/-- The reference's first result: `h + rms_norm ff * g`. -/
abbrev REF0 (h ff : FVec Ideal S2x4096x4096 .f32) (g : FVec Ideal S4096 .f32) : FVec Ideal S8192x4096 .f32 :=
  Cert.NextRefIdeal.Read.val_main_v14 (F := Ideal) h ff g

/-- The reference's second result: the norm of the first, with the next layer's gains. -/
abbrev REF1 (h ff : FVec Ideal S2x4096x4096 .f32) (g g' : FVec Ideal S4096 .f32) : FVec Ideal S8192x4096 .bf16 :=
  Cert.NextRefIdeal.Read.val_main_v29 (F := Ideal) h ff g g'

/-- Every window's block index in closed form: point `t` has the `t`-th block of rows, and the one block of gains. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, _)

open Cert.NextRefIdeal.Read in
set_option maxHeartbeats 1000000 in
/-- A row of the sum that a point forms is a row of the reference's sum. -/
theorem row (c : Dev nD) (t : Fin cfg0.N) (r : Fin 256) (b : Fin 2) (s : Fin 4096) (h : t.val * 256 + r.val = b.val * 4096 + s.val) (n : Fin 4096) :
    k0_pay1 (iblk m c 0 t) (iblk m c 1 t) (iblk m c 2 t) (ix2 r n : S256x4096.Idx)
      = val_main_v13 (F := Ideal) (m ((c : Thread nD τ).loc main_arg0)) (m ((c : Thread nD τ).loc main_arg1)) (m ((c : Thread nD τ).loc main_arg2)) (ix3 b s n : S2x4096x4096.Idx) := by
  pointwise [k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- A gain of the second norm, at a point. -/
theorem gain (c : Dev nD) (t : Fin cfg0.N) (n : Fin 4096) :
    iblk m c 3 t (ix2 0 n : S1x4096.Idx) = m ((c : Thread nD τ).loc main_arg3) (ix1 n : S4096.Idx) := by
  blk_point [iblk, V, idx t]

open Cert.NextRefIdeal.Read in
set_option maxHeartbeats 1000000 in
/-- What a point stores first at an index of its block is the reference's first term at the index where the block sits. -/
theorem point4 (c : Dev nD) (t : Fin cfg0.N) (y : S256x4096.Idx) (j : S8192x4096.Idx)
    (h0 : (j 0 : Nat) = t.val * 256 + y 0) (h1 : (j 1 : Nat) = y 1) :
    k0_pay1 (iblk m c 0 t) (iblk m c 1 t) (iblk m c 2 t) y = REF0 (m ((c : Thread nD τ).loc main_arg0)) (m ((c : Thread nD τ).loc main_arg1)) (m ((c : Thread nD τ).loc main_arg2)) j := by
  have hy : y = ix2 (y 0) (j 1) := by funext a; fin_cases a <;> first | rfl | exact Fin.ext h1.symm
  have hj : (j 0 : Nat) < 8192 := (j 0).isLt
  rw [hy]
  refine (row m c t (y 0) ⟨(j 0).val / 4096, by omega⟩ ⟨(j 0).val % 4096, by omega⟩ (by simp only; omega) (j 1)).trans ?_
  generalize hZ : val_main_v13 (F := Ideal) (m ((c : Thread nD τ).loc main_arg0)) (m ((c : Thread nD τ).loc main_arg1)) (m ((c : Thread nD τ).loc main_arg2)) = Z
  pointwise [REF0, val_main_v14]
  rw [hZ]

open Cert.NextRefIdeal.Read in
set_option maxHeartbeats 2000000 in
/-- What a point stores second at an index of its block is the reference's second term at the index where the block sits. -/
theorem point5 (c : Dev nD) (t : Fin cfg0.N) (y : S256x4096.Idx) (j : S8192x4096.Idx)
    (h0 : (j 0 : Nat) = t.val * 256 + y 0) (h1 : (j 1 : Nat) = y 1) :
    k0_pay2 (iblk m c 0 t) (iblk m c 1 t) (iblk m c 2 t) (iblk m c 3 t) y = REF1 (m ((c : Thread nD τ).loc main_arg0)) (m ((c : Thread nD τ).loc main_arg1)) (m ((c : Thread nD τ).loc main_arg2)) (m ((c : Thread nD τ).loc main_arg3)) j := by
  have hj : (j 0 : Nat) < 8192 := (j 0).isLt
  have p := row m c t (y 0) ⟨(j 0).val / 4096, by omega⟩ ⟨(j 0).val % 4096, by omega⟩ (by simp only; omega)
  have hy : y = ix2 (y 0) (j 1) := by funext a; fin_cases a <;> first | rfl | exact Fin.ext h1.symm
  rw [hy]
  have g := gain m c t
  pointwise [k0_pay2, REF1, val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  generalize k0_pay1 (iblk m c 0 t) (iblk m c 1 t) (iblk m c 2 t) = P at p ⊢
  generalize val_main_v13 (F := Ideal) (m ((c : Thread nD τ).loc main_arg0)) (m ((c : Thread nD τ).loc main_arg1)) (m ((c : Thread nD τ).loc main_arg2)) = Z at p ⊢
  exact congr (congrArg _ (congr (congrArg _ (p (j 1))) (congrArg (fun s => Ideal.rsqrt (Ideal.div s _ + _))
    (Finset.sum_congr rfl fun n _ => congr (congrArg _ (p n)) (p n))))) (g (j 1))

/-- The first result array after the last grid point is the reference's first term. -/
theorem final4 (c : Dev nD) : (dats m 0 c).arrAt 4 cfg0.N = REF0 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine point4 m c t y _ ?_ ?_ <;> blk_simp [idx t]

/-- The second result array after the last grid point is the reference's second term. -/
theorem final5 (c : Dev nD) : (dats m 0 c).arrAt 5 cfg0.N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine point5 m c t y _ ?_ ?_ <;> blk_simp [idx t]

end Cert.NextIdeal.RefValue

end
-- ==== Proof.SideStep.lean ====
/- Hand-written, untrusted: what it means that a step of `hgrn2_mixer` runs and leaves given pieces of the side product; and where it stores the kept rows. -/
module

public import proofs.«01_k».proof.Proof.Gen.SideIdeal.Frame
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The first row, in the kept rows' buffer, of the block a step of the backward pass writes. -/
def base1 (i : grid0.Coords) : Nat := k0_off1 i 0#32 0

/-- The first row of a piece of that block is the block's first row plus the piece's. -/
theorem off1_form (i : grid0.Coords) (r : Fin 8) :
    k0_off1 i (BitVec.ofNat 32 (128 * r.val)) = ![base1 i + 128 * r.val, 0] := by
  unfold base1 k0_off1
  generalize i 2 = j
  revert j r; decide
instance (i : grid0.Coords) : ClosedOff (k0_off1 i 0#32) := ⟨![base1 i + 0, 0], off1_form i 0⟩
instance (i : grid0.Coords) : ClosedOff (k0_off1 i 128#32) := ⟨![base1 i + 128, 0], off1_form i 1⟩
instance (i : grid0.Coords) : ClosedOff (k0_off1 i 256#32) := ⟨![base1 i + 256, 0], off1_form i 2⟩
instance (i : grid0.Coords) : ClosedOff (k0_off1 i 384#32) := ⟨![base1 i + 384, 0], off1_form i 3⟩
instance (i : grid0.Coords) : ClosedOff (k0_off1 i 512#32) := ⟨![base1 i + 512, 0], off1_form i 4⟩
instance (i : grid0.Coords) : ClosedOff (k0_off1 i 640#32) := ⟨![base1 i + 640, 0], off1_form i 5⟩
instance (i : grid0.Coords) : ClosedOff (k0_off1 i 768#32) := ⟨![base1 i + 768, 0], off1_form i 6⟩
instance (i : grid0.Coords) : ClosedOff (k0_off1 i 896#32) := ⟨![base1 i + 896, 0], off1_form i 7⟩

section

variable (c : Dev nD) (arg3 : Memref sig .tc .vmem S4x128 .f32)
  (arg4 : Memref sig .tc .vmem S2x128x128 .i32)
  (arg5 : Memref sig .tc .vmem S7x128x128 .f32)
  (arg6 : Memref sig .tc .vmem S7x128x128 .f32)
  (arg7 : Memref sig .tc .vmem S2x4x128x128 .f32)
  (arg8 : Memref sig .tc .vmem S1024x128 .f32)
  (arg9 : Memref sig .tc .vmem S1024x128 .f32)
  (arg10 : Memref sig .tc .vmem S1024x128 .f32)
  (arg11 : Memref sig .tc .vmem S1024x128 .f32)
  (arg12 : Memref sig .tc .vmem S1x128 .f32)
  (arg13 : Memref sig .tc .vmem S1024x4096 .bf16)
  (arg14 : Memref sig .tc .vmem S1x4096x512 .f32)
  (arg15 : Memref sig .tc .vmem S1024x128 .bf16)
  (arg16 : Memref sig .tc .vmem S1024x512 .f32)
  (arg17 : Memref sig .tc .vmem S128x128 .f32)
  (arg18 : Memref sig .tc .vmem S4096x128 .f32)
  (arg19 : Memref sig .tc .vmem S4096x512 .bf16)
  (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32)
  (prog : Prog (TpuEff nD τ sig (Elt F) Λ₀ .tc) PUnit) (L : List (View.Piece (Elt F) S1024x512 .f32))

/-- A step, from the twelve blocks it takes and anything in the other buffers, runs, leaves the blocks as they are, and
    leaves the side product's buffer written over by the pieces `L`. -/
def Leaves : Prop :=
  ∀ (E : Set ℕ) (K : PUnit → sProp 𝕄),
    iprop(owns (c : Thread nD τ) arg3 fullShare x0 ∗
      owns (c : Thread nD τ) arg4 fullShare x1 ∗
      owns (c : Thread nD τ) arg5 fullShare x2 ∗
      owns (c : Thread nD τ) arg6 fullShare x3 ∗
      owns (c : Thread nD τ) arg7 fullShare x4 ∗
      owns (c : Thread nD τ) arg8 fullShare x5 ∗
      owns (c : Thread nD τ) arg9 fullShare x6 ∗
      owns (c : Thread nD τ) arg10 fullShare x7 ∗
      owns (c : Thread nD τ) arg11 fullShare x8 ∗
      owns (c : Thread nD τ) arg12 fullShare x9 ∗
      owns (c : Thread nD τ) arg13 fullShare x10 ∗
      owns (c : Thread nD τ) arg14 fullShare x11 ∗
      (∃ d, owns (c : Thread nD τ) arg15 fullShare d) ∗
      (∃ d, owns (c : Thread nD τ) arg16 fullShare d) ∗
      (∃ d, owns (c : Thread nD τ) arg17 fullShare d) ∗
      (∃ d, owns (c : Thread nD τ) arg18 fullShare d) ∗
      (∃ d, owns (c : Thread nD τ) arg19 fullShare d) ∗
      (iprop(owns (c : Thread nD τ) arg3 fullShare x0 ∗
        owns (c : Thread nD τ) arg4 fullShare x1 ∗
        owns (c : Thread nD τ) arg5 fullShare x2 ∗
        owns (c : Thread nD τ) arg6 fullShare x3 ∗
        owns (c : Thread nD τ) arg7 fullShare x4 ∗
        owns (c : Thread nD τ) arg8 fullShare x5 ∗
        owns (c : Thread nD τ) arg9 fullShare x6 ∗
        owns (c : Thread nD τ) arg10 fullShare x7 ∗
        owns (c : Thread nD τ) arg11 fullShare x8 ∗
        owns (c : Thread nD τ) arg12 fullShare x9 ∗
        owns (c : Thread nD τ) arg13 fullShare x10 ∗
        owns (c : Thread nD τ) arg14 fullShare x11 ∗
        (∃ d, owns (c : Thread nD τ) arg15 fullShare d) ∗
        (∃ f, (arg16.view.loc (c : Thread nD τ) ↦[arg16.view.set]{fullShare} arg16.view.writes (Elt F) f L)) ∗
        (∃ d, owns (c : Thread nD τ) arg17 fullShare d) ∗
        (∃ d, owns (c : Thread nD τ) arg18 fullShare d) ∗
        (∃ d, owns (c : Thread nD τ) arg19 fullShare d)) -∗ K ⟨⟩))
    ⊢ wp frame (wpE (defs₀ (F := F)) Variants.none c none) E prog K

variable (harg3 : arg3.IsWhole)
  (harg4 : arg4.IsWhole)
  (harg5 : arg5.IsWhole)
  (harg6 : arg6.IsWhole)
  (harg7 : arg7.IsWhole)
  (harg8 : arg8.IsWhole)
  (harg9 : arg9.IsWhole)
  (harg10 : arg10.IsWhole)
  (harg11 : arg11.IsWhole)
  (harg12 : arg12.IsWhole)
  (harg13 : arg13.IsWhole)
  (harg14 : arg14.IsWhole)
  (harg15 : arg15.IsWhole)
  (harg16 : arg16.IsWhole)
  (harg17 : arg17.IsWhole)
  (harg18 : arg18.IsWhole)
  (harg19 : arg19.IsWhole)

set_option maxHeartbeats 4000000 in
/-- It is enough to run the step from the buffers' contents themselves. -/
theorem Leaves.of_contents
    (h : ∀ (E : Set ℕ) (K : PUnit → sProp 𝕄) f12 f13 f14 f15 f16,
      iprop((arg3.view.loc (c : Thread nD τ) ↦[arg3.view.set]{fullShare} harg3.unread x0) ∗
        (arg4.view.loc (c : Thread nD τ) ↦[arg4.view.set]{fullShare} harg4.unread x1) ∗
        (arg5.view.loc (c : Thread nD τ) ↦[arg5.view.set]{fullShare} harg5.unread x2) ∗
        (arg6.view.loc (c : Thread nD τ) ↦[arg6.view.set]{fullShare} harg6.unread x3) ∗
        (arg7.view.loc (c : Thread nD τ) ↦[arg7.view.set]{fullShare} harg7.unread x4) ∗
        (arg8.view.loc (c : Thread nD τ) ↦[arg8.view.set]{fullShare} harg8.unread x5) ∗
        (arg9.view.loc (c : Thread nD τ) ↦[arg9.view.set]{fullShare} harg9.unread x6) ∗
        (arg10.view.loc (c : Thread nD τ) ↦[arg10.view.set]{fullShare} harg10.unread x7) ∗
        (arg11.view.loc (c : Thread nD τ) ↦[arg11.view.set]{fullShare} harg11.unread x8) ∗
        (arg12.view.loc (c : Thread nD τ) ↦[arg12.view.set]{fullShare} harg12.unread x9) ∗
        (arg13.view.loc (c : Thread nD τ) ↦[arg13.view.set]{fullShare} harg13.unread x10) ∗
        (arg14.view.loc (c : Thread nD τ) ↦[arg14.view.set]{fullShare} harg14.unread x11) ∗
        (arg15.view.loc (c : Thread nD τ) ↦[arg15.view.set]{fullShare} f12) ∗
        (arg16.view.loc (c : Thread nD τ) ↦[arg16.view.set]{fullShare} f13) ∗
        (arg17.view.loc (c : Thread nD τ) ↦[arg17.view.set]{fullShare} f14) ∗
        (arg18.view.loc (c : Thread nD τ) ↦[arg18.view.set]{fullShare} f15) ∗
        (arg19.view.loc (c : Thread nD τ) ↦[arg19.view.set]{fullShare} f16) ∗
        (iprop((arg3.view.loc (c : Thread nD τ) ↦[arg3.view.set]{fullShare} harg3.unread x0) ∗
          (arg4.view.loc (c : Thread nD τ) ↦[arg4.view.set]{fullShare} harg4.unread x1) ∗
          (arg5.view.loc (c : Thread nD τ) ↦[arg5.view.set]{fullShare} harg5.unread x2) ∗
          (arg6.view.loc (c : Thread nD τ) ↦[arg6.view.set]{fullShare} harg6.unread x3) ∗
          (arg7.view.loc (c : Thread nD τ) ↦[arg7.view.set]{fullShare} harg7.unread x4) ∗
          (arg8.view.loc (c : Thread nD τ) ↦[arg8.view.set]{fullShare} harg8.unread x5) ∗
          (arg9.view.loc (c : Thread nD τ) ↦[arg9.view.set]{fullShare} harg9.unread x6) ∗
          (arg10.view.loc (c : Thread nD τ) ↦[arg10.view.set]{fullShare} harg10.unread x7) ∗
          (arg11.view.loc (c : Thread nD τ) ↦[arg11.view.set]{fullShare} harg11.unread x8) ∗
          (arg12.view.loc (c : Thread nD τ) ↦[arg12.view.set]{fullShare} harg12.unread x9) ∗
          (arg13.view.loc (c : Thread nD τ) ↦[arg13.view.set]{fullShare} harg13.unread x10) ∗
          (arg14.view.loc (c : Thread nD τ) ↦[arg14.view.set]{fullShare} harg14.unread x11) ∗
          (∃ g, (arg15.view.loc (c : Thread nD τ) ↦[arg15.view.set]{fullShare} g)) ∗
          (∃ g, (arg16.view.loc (c : Thread nD τ) ↦[arg16.view.set]{fullShare} arg16.view.writes (Elt F) g L)) ∗
          (∃ g, (arg17.view.loc (c : Thread nD τ) ↦[arg17.view.set]{fullShare} g)) ∗
          (∃ g, (arg18.view.loc (c : Thread nD τ) ↦[arg18.view.set]{fullShare} g)) ∗
          (∃ g, (arg19.view.loc (c : Thread nD τ) ↦[arg19.view.set]{fullShare} g))) -∗ K ⟨⟩))
      ⊢ wp frame (wpE (defs₀ (F := F)) Variants.none c none) E prog K) :
    Leaves c arg3 arg4 arg5 arg6 arg7 arg8 arg9 arg10 arg11 arg12 arg13 arg14 arg15 arg16 arg17 arg18 arg19 x0 x1 x2 x3 x4 x5 x6 x7 x8 x9 x10 x11 prog L := by
  intro E K
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  obtain rfl := harg12.eq_unread hf9
  obtain rfl := harg13.eq_unread hf10
  obtain rfl := harg14.eq_unread hf11
  iapply (h E K f12 f13 f14 f15 f16)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, ⟨%g12, H12⟩, ⟨%g13, H13⟩, ⟨%g14, H14⟩, ⟨%g15, H15⟩, ⟨%g16, H16⟩⟩
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _, _; isplitr; swap; · iexact H12
    ipureintro; rfl
  isplitl [H13]; · iexists _; iexact H13
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end

end Cert.SideIdeal.Hand

end
-- ==== Proof.SideRunA.lean ====
/- Hand-written, untrusted: the first step of a sweep (the backward pass). -/
module

public import proofs.«01_k».proof.Proof.SideStep
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 40000000 in
/-- The body at the first step of a sweep, which keeps the rows of the backward pass: the pieces it leaves of the side product, and that it runs. -/
noncomputable def runA (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole)
    (hc1 : ((Scalar.cmpi .ne (Scalar.extui (Scalar.cmpi .eq (BitVec.ofNat 32 (i 2).val) 0#32 : BitVec 1) : BitVec 32) 0#32 : BitVec 1) = 1#1)) (hc2 : (k0_cond2 i = 1#1))
    (hc3 : ¬ ((Scalar.cmpi .ne (Scalar.extui (Scalar.cmpi .eq (BitVec.ofNat 32 (i 2).val) 4#32 : BitVec 1) : BitVec 32) 0#32 : BitVec 1) = 1#1)) (hc4 : ¬ (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) :
    { L : List (View.Piece (Elt F) S1024x512 .f32) // Leaves c arg3 arg4 arg5 arg6 arg7 arg8 arg9 arg10 arg11 arg12 arg13 arg14 arg15 arg16 arg17 arg18 arg19 x0 x1 x2 x3 x4 x5 x6 x7 x8 x9 x10 x11 (cc0_hgrn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) L } := by
  refine ⟨?_, Leaves.of_contents c arg3 arg4 arg5 arg6 arg7 arg8 arg9 arg10 arg11 arg12 arg13 arg14 arg15 arg16 arg17 arg18 arg19 x0 x1 x2 x3 x4 x5 x6 x7 x8 x9 x10 x11 _ _ harg3 harg4 harg5 harg6 harg7 harg8 harg9 harg10 harg11 harg12 harg13 harg14 fun E K f12 f13 f14 f15 f16 => ?run⟩
  case run =>
    simp only [cc0_hgrn2_eq_skeleton]; unfold cc0_hgrn2_skel
    iintro ⟨H0, H1, H2, H3, H4, H5, H6, H7, H8, H9, H10, H11, H12, H13, H14, H15, H16, Hk⟩
    sl_exec (disch := first | sl_exact hc1 | sl_exact hc2 | sl_exact hc3 | sl_exact hc4)
    sl_step
    iapply Hk
    iframe H0 H1 H2 H3 H4 H5 H6 H7 H8 H9 H10 H11
    isplitl [H12]; · iexists _; iexact H12
    isplitl [H13]; · iexists _; iexact H13
    isplitl [H14]; · iexists _; iexact H14
    isplitl [H15]; · iexists _; iexact H15
    iexists _; iexact H16

end Cert.SideIdeal.Hand

end
-- ==== Proof.SideRunB.lean ====
/- Hand-written, untrusted: a later step of the backward pass. -/
module

public import proofs.«01_k».proof.Proof.SideStep
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 40000000 in
/-- The body at a later step of the backward pass. -/
noncomputable def runB (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole)
    (hc1 : ¬ ((Scalar.cmpi .ne (Scalar.extui (Scalar.cmpi .eq (BitVec.ofNat 32 (i 2).val) 0#32 : BitVec 1) : BitVec 32) 0#32 : BitVec 1) = 1#1)) (hc2 : (k0_cond2 i = 1#1))
    (hc3 : ¬ ((Scalar.cmpi .ne (Scalar.extui (Scalar.cmpi .eq (BitVec.ofNat 32 (i 2).val) 4#32 : BitVec 1) : BitVec 32) 0#32 : BitVec 1) = 1#1)) (hc4 : ¬ (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) :
    { L : List (View.Piece (Elt F) S1024x512 .f32) // Leaves c arg3 arg4 arg5 arg6 arg7 arg8 arg9 arg10 arg11 arg12 arg13 arg14 arg15 arg16 arg17 arg18 arg19 x0 x1 x2 x3 x4 x5 x6 x7 x8 x9 x10 x11 (cc0_hgrn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) L } := by
  refine ⟨?_, Leaves.of_contents c arg3 arg4 arg5 arg6 arg7 arg8 arg9 arg10 arg11 arg12 arg13 arg14 arg15 arg16 arg17 arg18 arg19 x0 x1 x2 x3 x4 x5 x6 x7 x8 x9 x10 x11 _ _ harg3 harg4 harg5 harg6 harg7 harg8 harg9 harg10 harg11 harg12 harg13 harg14 fun E K f12 f13 f14 f15 f16 => ?run⟩
  case run =>
    simp only [cc0_hgrn2_eq_skeleton]; unfold cc0_hgrn2_skel
    iintro ⟨H0, H1, H2, H3, H4, H5, H6, H7, H8, H9, H10, H11, H12, H13, H14, H15, H16, Hk⟩
    sl_exec (disch := first | sl_exact hc1 | sl_exact hc2 | sl_exact hc3 | sl_exact hc4)
    sl_step
    iapply Hk
    iframe H0 H1 H2 H3 H4 H5 H6 H7 H8 H9 H10 H11
    isplitl [H12]; · iexists _; iexact H12
    isplitl [H13]; · iexists _; iexact H13
    isplitl [H14]; · iexists _; iexact H14
    isplitl [H15]; · iexists _; iexact H15
    iexists _; iexact H16

end Cert.SideIdeal.Hand

end
-- ==== Proof.SideRunC.lean ====
/- Hand-written, untrusted: the first step of the forward pass. -/
module

public import proofs.«01_k».proof.Proof.SideStep
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 40000000 in
/-- The body at the first step of the forward pass. -/
noncomputable def runC (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole)
    (hc1 : ¬ ((Scalar.cmpi .ne (Scalar.extui (Scalar.cmpi .eq (BitVec.ofNat 32 (i 2).val) 0#32 : BitVec 1) : BitVec 32) 0#32 : BitVec 1) = 1#1)) (hc2 : ¬ (k0_cond2 i = 1#1))
    (hc3 : ((Scalar.cmpi .ne (Scalar.extui (Scalar.cmpi .eq (BitVec.ofNat 32 (i 2).val) 4#32 : BitVec 1) : BitVec 32) 0#32 : BitVec 1) = 1#1)) (hc4 : (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) :
    { L : List (View.Piece (Elt F) S1024x512 .f32) // Leaves c arg3 arg4 arg5 arg6 arg7 arg8 arg9 arg10 arg11 arg12 arg13 arg14 arg15 arg16 arg17 arg18 arg19 x0 x1 x2 x3 x4 x5 x6 x7 x8 x9 x10 x11 (cc0_hgrn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) L } := by
  refine ⟨?_, Leaves.of_contents c arg3 arg4 arg5 arg6 arg7 arg8 arg9 arg10 arg11 arg12 arg13 arg14 arg15 arg16 arg17 arg18 arg19 x0 x1 x2 x3 x4 x5 x6 x7 x8 x9 x10 x11 _ _ harg3 harg4 harg5 harg6 harg7 harg8 harg9 harg10 harg11 harg12 harg13 harg14 fun E K f12 f13 f14 f15 f16 => ?run⟩
  case run =>
    simp only [cc0_hgrn2_eq_skeleton]; unfold cc0_hgrn2_skel
    iintro ⟨H0, H1, H2, H3, H4, H5, H6, H7, H8, H9, H10, H11, H12, H13, H14, H15, H16, Hk⟩
    sl_exec (disch := first | sl_exact hc1 | sl_exact hc2 | sl_exact hc3 | sl_exact hc4)
    sl_step
    iapply Hk
    iframe H0 H1 H2 H3 H4 H5 H6 H7 H8 H9 H10 H11
    isplitl [H12]; · iexists _; iexact H12
    isplitl [H13]; · iexists _; iexact H13
    isplitl [H14]; · iexists _; iexact H14
    isplitl [H15]; · iexists _; iexact H15
    iexists _; iexact H16

end Cert.SideIdeal.Hand

end
-- ==== Proof.SideRunD.lean ====
/- Hand-written, untrusted: a later step of the forward pass. -/
module

public import proofs.«01_k».proof.Proof.SideStep
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 40000000 in
/-- The body at a later step of the forward pass. -/
noncomputable def runD (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole)
    (hc1 : ¬ ((Scalar.cmpi .ne (Scalar.extui (Scalar.cmpi .eq (BitVec.ofNat 32 (i 2).val) 0#32 : BitVec 1) : BitVec 32) 0#32 : BitVec 1) = 1#1)) (hc2 : ¬ (k0_cond2 i = 1#1))
    (hc3 : ¬ ((Scalar.cmpi .ne (Scalar.extui (Scalar.cmpi .eq (BitVec.ofNat 32 (i 2).val) 4#32 : BitVec 1) : BitVec 32) 0#32 : BitVec 1) = 1#1)) (hc4 : (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) :
    { L : List (View.Piece (Elt F) S1024x512 .f32) // Leaves c arg3 arg4 arg5 arg6 arg7 arg8 arg9 arg10 arg11 arg12 arg13 arg14 arg15 arg16 arg17 arg18 arg19 x0 x1 x2 x3 x4 x5 x6 x7 x8 x9 x10 x11 (cc0_hgrn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) L } := by
  refine ⟨?_, Leaves.of_contents c arg3 arg4 arg5 arg6 arg7 arg8 arg9 arg10 arg11 arg12 arg13 arg14 arg15 arg16 arg17 arg18 arg19 x0 x1 x2 x3 x4 x5 x6 x7 x8 x9 x10 x11 _ _ harg3 harg4 harg5 harg6 harg7 harg8 harg9 harg10 harg11 harg12 harg13 harg14 fun E K f12 f13 f14 f15 f16 => ?run⟩
  case run =>
    simp only [cc0_hgrn2_eq_skeleton]; unfold cc0_hgrn2_skel
    iintro ⟨H0, H1, H2, H3, H4, H5, H6, H7, H8, H9, H10, H11, H12, H13, H14, H15, H16, Hk⟩
    sl_exec (disch := first | sl_exact hc1 | sl_exact hc2 | sl_exact hc3 | sl_exact hc4)
    sl_step
    iapply Hk
    iframe H0 H1 H2 H3 H4 H5 H6 H7 H8 H9 H10 H11
    isplitl [H12]; · iexists _; iexact H12
    isplitl [H13]; · iexists _; iexact H13
    isplitl [H14]; · iexists _; iexact H14
    isplitl [H15]; · iexists _; iexact H15
    iexists _; iexact H16

end Cert.SideIdeal.Hand

end
-- ==== Proof.SideBlock.lean ====
/- Hand-written, untrusted: the block of the side product that a step computes, as one function. -/
module

public import proofs.«01_k».proof.Proof.Gen.SideIdeal.Frame
public import proofs.«01_k».proof.Proof.Gen.SideIdeal.Skeleton
public import Idealize.ShloMosaic.Lib.Pipeline.Frame
public import Idealize.ShloMosaic.Lib.Tactic
public import Idealize.ShloMosaic.Lib.Pipeline.ValueKit

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The eight pieces of 128 rows that a step computes of its block of the side product, put together: a row is the row
    of the left block times the whole right block, rounded. -/
def prod (x : Vec F S1024x4096 .bf16) (w : Vec F S1x4096x512 .f32) : Vec F S1024x512 .f32 := fun y =>
  k0_pay12 (fun z => x (ix2 ⟨(y 0).val / 128 * 128 + (z 0).val, by
      have h : (y 0).val < 1024 := (y 0).isLt
      have h' : (z 0).val < 128 := (z 0).isLt
      show _ < 1024; omega⟩ (z 1)))
    (k0_pay4 w) (ix2 ⟨(y 0).val % 128, Nat.mod_lt _ (by decide)⟩ (y 1))

/-- A piece's payload agrees with `prod` wherever the piece lies. -/
theorem tile (x : Vec F S1024x4096 .bf16) (w : Vec F S1x4096x512 .f32) (n : Nat)
    (inb : ∀ a, (![128 * n, 0] : Fin 2 → Nat) a + (![128, 4096] : Fin 2 → Nat) a ≤ S1024x4096.size a) (y : S1024x512.Idx) :
    View.TileAt (Val := Elt F) y ![128 * n, 0] ![128, 512]
      (k0_pay12 (View.ld x (Rect.unit ![128 * n, 0] ![128, 4096] inb)) (k0_pay4 w)) (prod x w y) := by
  intro z hz
  have h0 : (y 0).val = 128 * n + (z 0).val := hz 0
  have h1 : (y 1).val = 0 + (z 1).val := hz 1
  have hz0 : (z 0).val < 128 := (z 0).isLt
  unfold prod
  have e1 : (ix2 ⟨(y 0).val % 128, Nat.mod_lt _ (by decide)⟩ (y 1) : S128x512.Idx) = z := by
    funext a; apply Fin.ext; fin_cases a
    · show (y 0).val % 128 = (z 0).val; omega
    · show (y 1).val = (z 1).val; omega
  rw [e1]
  refine congrFun (congrArg (fun v => k0_pay12 v (k0_pay4 w)) ?_) z
  funext u
  refine View.ld_unit_apply_of x _ _ inb u _ fun a => ?_
  fin_cases a
  · show (y 0).val / 128 * 128 + (u 0).val = 128 * n + (u 0).val; omega
  · show (u 1).val = 0 + (u 1).val; omega

end Cert.SideIdeal.Hand

end
-- ==== Proof.SideRead.lean ====
/- Hand-written, untrusted: each kind of step leaves that block. -/
module

public import proofs.«01_k».proof.Proof.SideRunA
public import proofs.«01_k».proof.Proof.SideRunB
public import proofs.«01_k».proof.Proof.SideRunC
public import proofs.«01_k».proof.Proof.SideRunD
public import proofs.«01_k».proof.Proof.SideBlock
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The eight pieces, read back, are the block `prod`. -/
theorem pieces_read (v : View sig .tc .vmem S1024x512 .f32) (f : v.ty.Contents (Elt F)) (x : Vec F S1024x4096 .bf16)
    (w : Vec F S1x4096x512 .f32) (b : Vec F S4096x512 .bf16) (hb : b = k0_pay4 w) :
    v.read (Elt F) (v.writes (Elt F) f
      [⟨Rect.unit (s := S1024x512) ![896, 0] ![128, 512] (by decide), k0_pay12 (View.ld x (Rect.unit (s := S1024x4096) ![896, 0] ![128, 4096] (by decide))) b⟩, ⟨Rect.unit (s := S1024x512) ![768, 0] ![128, 512] (by decide), k0_pay12 (View.ld x (Rect.unit (s := S1024x4096) ![768, 0] ![128, 4096] (by decide))) b⟩, ⟨Rect.unit (s := S1024x512) ![640, 0] ![128, 512] (by decide), k0_pay12 (View.ld x (Rect.unit (s := S1024x4096) ![640, 0] ![128, 4096] (by decide))) b⟩, ⟨Rect.unit (s := S1024x512) ![512, 0] ![128, 512] (by decide), k0_pay12 (View.ld x (Rect.unit (s := S1024x4096) ![512, 0] ![128, 4096] (by decide))) b⟩, ⟨Rect.unit (s := S1024x512) ![384, 0] ![128, 512] (by decide), k0_pay12 (View.ld x (Rect.unit (s := S1024x4096) ![384, 0] ![128, 4096] (by decide))) b⟩, ⟨Rect.unit (s := S1024x512) ![256, 0] ![128, 512] (by decide), k0_pay12 (View.ld x (Rect.unit (s := S1024x4096) ![256, 0] ![128, 4096] (by decide))) b⟩, ⟨Rect.unit (s := S1024x512) ![128, 0] ![128, 512] (by decide), k0_pay12 (View.ld x (Rect.unit (s := S1024x4096) ![128, 0] ![128, 4096] (by decide))) b⟩, ⟨Rect.unit (s := S1024x512) ![0, 0] ![128, 512] (by decide), k0_pay12 (View.ld x (Rect.unit (s := S1024x4096) ![0, 0] ![128, 4096] (by decide))) b⟩]) = prod x w := by
  subst hb
  funext y
  have hc := View.cover_of_tiled_head (Val := Elt F) (S := S1024x512) (e := .f32) (Rect.unit ![896, 0] ![128, 512] (by decide))
    (k0_pay12 (View.ld x (Rect.unit (s := S1024x4096) ![896, 0] ![128, 4096] (by decide))) (k0_pay4 w))
    [⟨Rect.unit (s := S1024x512) ![768, 0] ![128, 512] (by decide), k0_pay12 (View.ld x (Rect.unit (s := S1024x4096) ![768, 0] ![128, 4096] (by decide))) (k0_pay4 w)⟩, ⟨Rect.unit (s := S1024x512) ![640, 0] ![128, 512] (by decide), k0_pay12 (View.ld x (Rect.unit (s := S1024x4096) ![640, 0] ![128, 4096] (by decide))) (k0_pay4 w)⟩, ⟨Rect.unit (s := S1024x512) ![512, 0] ![128, 512] (by decide), k0_pay12 (View.ld x (Rect.unit (s := S1024x4096) ![512, 0] ![128, 4096] (by decide))) (k0_pay4 w)⟩, ⟨Rect.unit (s := S1024x512) ![384, 0] ![128, 512] (by decide), k0_pay12 (View.ld x (Rect.unit (s := S1024x4096) ![384, 0] ![128, 4096] (by decide))) (k0_pay4 w)⟩, ⟨Rect.unit (s := S1024x512) ![256, 0] ![128, 512] (by decide), k0_pay12 (View.ld x (Rect.unit (s := S1024x4096) ![256, 0] ![128, 4096] (by decide))) (k0_pay4 w)⟩, ⟨Rect.unit (s := S1024x512) ![128, 0] ![128, 512] (by decide), k0_pay12 (View.ld x (Rect.unit (s := S1024x4096) ![128, 0] ![128, 4096] (by decide))) (k0_pay4 w)⟩, ⟨Rect.unit (s := S1024x512) ![0, 0] ![128, 512] (by decide), k0_pay12 (View.ld x (Rect.unit (s := S1024x4096) ![0, 0] ![128, 4096] (by decide))) (k0_pay4 w)⟩] (by rfl) y
  rw [View.read_writes_apply_eq_canon v f y _ hc]
  refine View.canon_eq_of_allAt _ _ _ hc ?_
  refine View.allAt_cons_unit _ _ _ _ _ (tile x w 7 (by decide) y) ?_
  refine View.allAt_cons_unit _ _ _ _ _ (tile x w 6 (by decide) y) ?_
  refine View.allAt_cons_unit _ _ _ _ _ (tile x w 5 (by decide) y) ?_
  refine View.allAt_cons_unit _ _ _ _ _ (tile x w 4 (by decide) y) ?_
  refine View.allAt_cons_unit _ _ _ _ _ (tile x w 3 (by decide) y) ?_
  refine View.allAt_cons_unit _ _ _ _ _ (tile x w 2 (by decide) y) ?_
  refine View.allAt_cons_unit _ _ _ _ _ (tile x w 1 (by decide) y) ?_
  refine View.allAt_cons_unit _ _ _ _ _ (tile x w 0 (by decide) y) ?_
  exact View.allAt_nil _ _

/-- What a step of this case leaves of the side product's block. -/
theorem runA_read (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole) (hc1 : ((Scalar.cmpi .ne (Scalar.extui (Scalar.cmpi .eq (BitVec.ofNat 32 (i 2).val) 0#32 : BitVec 1) : BitVec 32) 0#32 : BitVec 1) = 1#1)) (hc2 : (k0_cond2 i = 1#1)) (hc3 : ¬ ((Scalar.cmpi .ne (Scalar.extui (Scalar.cmpi .eq (BitVec.ofNat 32 (i 2).val) 4#32 : BitVec 1) : BitVec 32) 0#32 : BitVec 1) = 1#1)) (hc4 : ¬ (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) (f : arg16.view.ty.Contents (Elt F)) :
    arg16.view.read (Elt F) (arg16.view.writes (Elt F) f (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).1) = prod x10 x11 := by
  have e10 := harg13.read_unread (Val := Elt F) x10
  have e11 := harg14.read_unread (Val := Elt F) x11
  delta runA
  dsimp only
  delta runA.sl.r_168 runA.sl.cst_506
  simp only [View.readAt_eq_ld, e10]
  refine pieces_read arg16.view f x10 x11 _ ?_
  delta runA.sl.v71
  delta runA.sl.H16_1
  simp (disch := decide) only [View.readAt_eq_ld, e11, View.ld_unit_lit', View.readCov_unit_lit', View.readCov_cons_unit_lit']

/-- What a step of this case leaves of the side product's block. -/
theorem runB_read (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole) (hc1 : ¬ ((Scalar.cmpi .ne (Scalar.extui (Scalar.cmpi .eq (BitVec.ofNat 32 (i 2).val) 0#32 : BitVec 1) : BitVec 32) 0#32 : BitVec 1) = 1#1)) (hc2 : (k0_cond2 i = 1#1)) (hc3 : ¬ ((Scalar.cmpi .ne (Scalar.extui (Scalar.cmpi .eq (BitVec.ofNat 32 (i 2).val) 4#32 : BitVec 1) : BitVec 32) 0#32 : BitVec 1) = 1#1)) (hc4 : ¬ (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) (f : arg16.view.ty.Contents (Elt F)) :
    arg16.view.read (Elt F) (arg16.view.writes (Elt F) f (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).1) = prod x10 x11 := by
  have e10 := harg13.read_unread (Val := Elt F) x10
  have e11 := harg14.read_unread (Val := Elt F) x11
  delta runB
  dsimp only
  delta runB.sl.r_168 runB.sl.cst_506
  simp only [View.readAt_eq_ld, e10]
  refine pieces_read arg16.view f x10 x11 _ ?_
  delta runB.sl.v71
  delta runB.sl.H16_1
  simp (disch := decide) only [View.readAt_eq_ld, e11, View.ld_unit_lit', View.readCov_unit_lit', View.readCov_cons_unit_lit']

/-- What a step of this case leaves of the side product's block. -/
theorem runC_read (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole) (hc1 : ¬ ((Scalar.cmpi .ne (Scalar.extui (Scalar.cmpi .eq (BitVec.ofNat 32 (i 2).val) 0#32 : BitVec 1) : BitVec 32) 0#32 : BitVec 1) = 1#1)) (hc2 : ¬ (k0_cond2 i = 1#1)) (hc3 : ((Scalar.cmpi .ne (Scalar.extui (Scalar.cmpi .eq (BitVec.ofNat 32 (i 2).val) 4#32 : BitVec 1) : BitVec 32) 0#32 : BitVec 1) = 1#1)) (hc4 : (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) (f : arg16.view.ty.Contents (Elt F)) :
    arg16.view.read (Elt F) (arg16.view.writes (Elt F) f (runC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).1) = prod x10 x11 := by
  have e10 := harg13.read_unread (Val := Elt F) x10
  have e11 := harg14.read_unread (Val := Elt F) x11
  delta runC
  dsimp only
  simp only [View.readAt_eq_ld, e10]
  refine pieces_read arg16.view f x10 x11 _ ?_
  delta runC.sl.v71
  delta runC.sl.H16_1
  simp (disch := decide) only [View.readAt_eq_ld, e11, View.ld_unit_lit', View.readCov_unit_lit', View.readCov_cons_unit_lit']
  rfl

/-- What a step of this case leaves of the side product's block. -/
theorem runD_read (c : Dev nD) (i : grid0.Coords) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole) (hc1 : ¬ ((Scalar.cmpi .ne (Scalar.extui (Scalar.cmpi .eq (BitVec.ofNat 32 (i 2).val) 0#32 : BitVec 1) : BitVec 32) 0#32 : BitVec 1) = 1#1)) (hc2 : ¬ (k0_cond2 i = 1#1)) (hc3 : ¬ ((Scalar.cmpi .ne (Scalar.extui (Scalar.cmpi .eq (BitVec.ofNat 32 (i 2).val) 4#32 : BitVec 1) : BitVec 32) 0#32 : BitVec 1) = 1#1)) (hc4 : (k0_cond4 i = 1#1))
    (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32) (f : arg16.view.ty.Contents (Elt F)) :
    arg16.view.read (Elt F) (arg16.view.writes (Elt F) f (runD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).1) = prod x10 x11 := by
  have e10 := harg13.read_unread (Val := Elt F) x10
  have e11 := harg14.read_unread (Val := Elt F) x11
  delta runD
  dsimp only
  simp only [View.readAt_eq_ld, e10]
  refine pieces_read arg16.view f x10 x11 _ ?_
  delta runD.sl.v71
  delta runD.sl.H16_1
  simp (disch := decide) only [View.readAt_eq_ld, e11, View.ld_unit_lit', View.readCov_unit_lit', View.readCov_cons_unit_lit']
  rfl

end Cert.SideIdeal.Hand

end
-- ==== Proof.SideKernel.lean ====
/- Hand-written, untrusted: the four kinds of step together. -/
module

public import proofs.«01_k».proof.Proof.SideRead
public import proofs.«01_k».proof.Proof.Gen.SideIdeal.Skeleton
public import Idealize.ShloMosaic.Lib.Pipeline.Frame
public import Idealize.ShloMosaic.Lib.Tactic

@[expose] public section

set_option maxRecDepth 65536

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A step is one of four: the first or a later one of the backward pass, the first or a later one of the forward pass. -/
theorem steps (i : grid0.Coords) :
    (((Scalar.cmpi .ne (Scalar.extui (Scalar.cmpi .eq (BitVec.ofNat 32 (i 2).val) 0#32 : BitVec 1) : BitVec 32) 0#32 : BitVec 1) = 1#1) ∧ (k0_cond2 i = 1#1) ∧ ¬ ((Scalar.cmpi .ne (Scalar.extui (Scalar.cmpi .eq (BitVec.ofNat 32 (i 2).val) 4#32 : BitVec 1) : BitVec 32) 0#32 : BitVec 1) = 1#1) ∧ ¬ (k0_cond4 i = 1#1))
    ∨ (¬ ((Scalar.cmpi .ne (Scalar.extui (Scalar.cmpi .eq (BitVec.ofNat 32 (i 2).val) 0#32 : BitVec 1) : BitVec 32) 0#32 : BitVec 1) = 1#1) ∧ (k0_cond2 i = 1#1) ∧ ¬ ((Scalar.cmpi .ne (Scalar.extui (Scalar.cmpi .eq (BitVec.ofNat 32 (i 2).val) 4#32 : BitVec 1) : BitVec 32) 0#32 : BitVec 1) = 1#1) ∧ ¬ (k0_cond4 i = 1#1))
    ∨ (¬ ((Scalar.cmpi .ne (Scalar.extui (Scalar.cmpi .eq (BitVec.ofNat 32 (i 2).val) 0#32 : BitVec 1) : BitVec 32) 0#32 : BitVec 1) = 1#1) ∧ ¬ (k0_cond2 i = 1#1) ∧ ((Scalar.cmpi .ne (Scalar.extui (Scalar.cmpi .eq (BitVec.ofNat 32 (i 2).val) 4#32 : BitVec 1) : BitVec 32) 0#32 : BitVec 1) = 1#1) ∧ (k0_cond4 i = 1#1))
    ∨ (¬ ((Scalar.cmpi .ne (Scalar.extui (Scalar.cmpi .eq (BitVec.ofNat 32 (i 2).val) 0#32 : BitVec 1) : BitVec 32) 0#32 : BitVec 1) = 1#1) ∧ ¬ (k0_cond2 i = 1#1) ∧ ¬ ((Scalar.cmpi .ne (Scalar.extui (Scalar.cmpi .eq (BitVec.ofNat 32 (i 2).val) 4#32 : BitVec 1) : BitVec 32) 0#32 : BitVec 1) = 1#1) ∧ (k0_cond4 i = 1#1)) := by
  unfold k0_cond2 k0_cond4
  generalize i 2 = j
  revert j; decide

variable (c : Dev nD) (arg3 : Memref sig .tc .vmem S4x128 .f32) (harg3 : arg3.IsWhole) (arg4 : Memref sig .tc .vmem S2x128x128 .i32) (harg4 : arg4.IsWhole) (arg5 : Memref sig .tc .vmem S7x128x128 .f32) (harg5 : arg5.IsWhole) (arg6 : Memref sig .tc .vmem S7x128x128 .f32) (harg6 : arg6.IsWhole) (arg7 : Memref sig .tc .vmem S2x4x128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x4096 .bf16) (harg13 : arg13.IsWhole) (arg14 : Memref sig .tc .vmem S1x4096x512 .f32) (harg14 : arg14.IsWhole) (arg15 : Memref sig .tc .vmem S1024x128 .bf16) (harg15 : arg15.IsWhole) (arg16 : Memref sig .tc .vmem S1024x512 .f32) (harg16 : arg16.IsWhole) (arg17 : Memref sig .tc .vmem S128x128 .f32) (harg17 : arg17.IsWhole) (arg18 : Memref sig .tc .vmem S4096x128 .f32) (harg18 : arg18.IsWhole) (arg19 : Memref sig .tc .vmem S4096x512 .bf16) (harg19 : arg19.IsWhole)
  (x0 : Vec F S4x128 .f32) (x1 : Vec F S2x128x128 .i32) (x2 : Vec F S7x128x128 .f32) (x3 : Vec F S7x128x128 .f32) (x4 : Vec F S2x4x128x128 .f32) (x5 : Vec F S1024x128 .f32) (x6 : Vec F S1024x128 .f32) (x7 : Vec F S1024x128 .f32) (x8 : Vec F S1024x128 .f32) (x9 : Vec F S1x128 .f32) (x10 : Vec F S1024x4096 .bf16) (x11 : Vec F S1x4096x512 .f32)

/-- A run that leaves the side product's buffer written over by pieces that read back as `prod` leaves the buffer at `prod`. -/
theorem closed (prog : Prog (TpuEff nD τ sig (Elt F) Λ₀ .tc) PUnit) (L : List (View.Piece (Elt F) S1024x512 .f32)) (E : Set ℕ) (K : PUnit → sProp 𝕄)
    (hr : ∀ f, arg16.view.read (Elt F) (arg16.view.writes (Elt F) f L) = prod x10 x11)
    (h : Leaves c arg3 arg4 arg5 arg6 arg7 arg8 arg9 arg10 arg11 arg12 arg13 arg14 arg15 arg16 arg17 arg18 arg19 x0 x1 x2 x3 x4 x5 x6 x7 x8 x9 x10 x11 prog L) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d)
            ∗ owns (c : Thread nD τ) arg16 fullShare (prod x10 x11) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E prog K := by
  refine .trans ?_ (h E K)
  iintro ⟨H0, H1, H2, H3, H4, H5, H6, H7, H8, H9, H10, H11, H12, H13, H14, H15, H16, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H0, H1, H2, H3, H4, H5, H6, H7, H8, H9, H10, H11, H12, ⟨%f, H13⟩, H14, H15, H16⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact hr f
  isplitl [H14]; · iexact H14
  isplitl [H15]; · iexact H15
  iexact H16

/-- The body at any step. -/
theorem kernel (i : grid0.Coords) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d)
            ∗ owns (c : Thread nD τ) arg16 fullShare (prod x10 x11) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0_hgrn2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rcases steps i with ⟨hc1, hc2, hc3, hc4⟩ | ⟨hc1, hc2, hc3, hc4⟩ | ⟨hc1, hc2, hc3, hc4⟩ | ⟨hc1, hc2, hc3, hc4⟩
  · exact closed c arg3 arg4 arg5 arg6 arg7 arg8 arg9 arg10 arg11 arg12 arg13 arg14 arg15 arg16 arg17 arg18 arg19 x0 x1 x2 x3 x4 x5 x6 x7 x8 x9 x10 x11 _ _ E K (runA_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11) ((runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).2)
  · exact closed c arg3 arg4 arg5 arg6 arg7 arg8 arg9 arg10 arg11 arg12 arg13 arg14 arg15 arg16 arg17 arg18 arg19 x0 x1 x2 x3 x4 x5 x6 x7 x8 x9 x10 x11 _ _ E K (runB_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11) ((runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).2)
  · exact closed c arg3 arg4 arg5 arg6 arg7 arg8 arg9 arg10 arg11 arg12 arg13 arg14 arg15 arg16 arg17 arg18 arg19 x0 x1 x2 x3 x4 x5 x6 x7 x8 x9 x10 x11 _ _ E K (runC_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11) ((runC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).2)
  · exact closed c arg3 arg4 arg5 arg6 arg7 arg8 arg9 arg10 arg11 arg12 arg13 arg14 arg15 arg16 arg17 arg18 arg19 x0 x1 x2 x3 x4 x5 x6 x7 x8 x9 x10 x11 _ _ E K (runD_read c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11) ((runD c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 hc4 x0 x1 x2 x3 x4 x5 x6 x7 x8 x9 x10 x11).2)

end Cert.SideIdeal.Hand

end
-- ==== Proof.SideFrame.lean ====
/- Hand-written, untrusted: the launch: every run ends, with the result array as the blocks leave it. -/
module

public import proofs.«01_k».proof.Proof.SideKernel
public import proofs.«01_k».proof.Proof.Gen.SideIdeal.Skeleton
public import Idealize.ShloMosaic.Lib.Pipeline.Frame
public import Idealize.ShloMosaic.Lib.Tactic

@[expose] public section

set_option maxRecDepth 16384

noncomputable section

namespace Cert.SideIdeal.Hand

open Cert.SideIdeal Cert.SideIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; an input's buffer left at its block, the recurrence's
    result unnamed, the side product's at `prod` of its two blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨13, _⟩ => prod (iblk m c 10 t) (iblk m c 11 t)
  Φ _ := Pipeline.ΦA spec0 c
  q w := Pipeline.shareOf spec0 w
  owed _ := 0

/-- The one window whose contents are not followed: the recurrence's result. -/
abbrev fgt : Fin 14 → Bool := fun w => w == 12

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_13 (c : Dev nD) (t : Fin cfg0.N) : (dats m 0 c).after 13 t = prod (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the region keeps for the body, taken apart: the three scratch buffers at anything, and the generator register. -/
theorem kept (c : Dev nD) :
    (Pipeline.ΦA (Val := Elt F) (U := UR sig nD τ) spec0 c : sProp 𝕄)
      = iprop(((∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)) ∗ ∃ r, prngReg c r) := by
  unfold Pipeline.ΦA; rw [scopedRest0_eq]; simp only [owns_whole]; try rfl

/-- The side product's buffer is written back at every point, so what is asked of it is what the body leaves. -/
theorem left13 (c : Dev nD) (t : Fin cfg0.N) :
    (dats m 0 c).leavesExact 13 t = owns (c : Thread nD τ) (st0_13 t) fullShare (prod (iblk m c 10 t) (iblk m c 11 t)) := by
  rw [← after0_13]
  unfold Dat.leavesExact
  cases cfg0.idle 13 (cfg0.grid.coords t)
  · rfl
  · rw [flush0_13 t]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (dats m 0 c).leavesExact 13 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [left13, show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    kept, after0_0, after0_1, after0_2, after0_3, after0_4, after0_5, after0_6, after0_7, after0_8, after0_9, after0_10, after0_11]
  iintro ⟨⟨⟨S0, S1, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, ⟨%d13, H13⟩⟩
  iapply (kernel c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (grid0.coords t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [S0]; · iexact S0
  isplitl [S1]; · iexact S1
  isplitl [S2]; · iexact S2
  iintro ⟨H0, H1, H2, H3, H4, H5, H6, H7, H8, H9, H10, H11, H12, H13, S0, S1, S2⟩
  isplitl [S0 S1 S2 Hr]
  · isplitr [Hr]
    · isplitl [S0]; · iexact S0
      isplitl [S1]; · iexact S1
      iexact S2
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every array of the pipeline but the recurrence's result ends at what the proof data say, and every counter
    of the machine at zero. -/
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- What the run leaves: the side product's array at the proof data's, the argument arrays as launched. -/
theorem run_blocks : θ_run defs (onTc (τ := τ) (main (F := F))) ⟨m, fun _ => 0, ρ⟩ (fun r => (∀ c : Dev nD,
      r.2.mem ((c.tc : Thread nD τ).loc (Pipeline.arrRef spec0 13)) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((dats m 0 c).toRForget_arrAt_iff (fgt := fgt) (w := 13) rfl cfg0.N _).mp ((h.1 c).1 13),
      (Pipeline.RDat.FramePost.arr_in h.1 c 8 rfl).trans ((A_eq m c 8).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 11 rfl).trans ((A_eq m c 11).trans (V_main_arg4 m c))⟩, h.2⟩) (run_main m ρ)

end Cert.SideIdeal.Hand

end
-- ==== Proof.SideBits.lean ====
/- Hand-written, untrusted: Side's program and its ideal program have the same text, so one run serves both. -/
module

public import proofs.«01_k».proof.Defs
public import proofs.«01_k».proof.Proof.Gen.Side
public import proofs.«01_k».proof.Proof.SideFrame

@[expose] public section

set_option maxRecDepth 1000000

open Idealize.ShloMosaic Idealize.ShloMosaic.TcCoe Idealize.SL.Sem

namespace Cert.Side

set_option maxHeartbeats 0 in
/-- The two programs' kernels are the same. -/
theorem defs₀_eq : Cert.Side.defs₀ (F := Bits) = Cert.SideIdeal.defs₀ (F := Bits) := by
  unfold Cert.Side.defs₀ Cert.SideIdeal.defs₀
  refine congrArg Defs.onTc ?_
  funext l x
  match l, x with
  | ⟨0, _⟩, (t, s) => rfl

/-- The two programs' functions are the same. -/
theorem defs_eq : Cert.Side.defs (F := Bits) = Cert.SideIdeal.defs (F := Bits) :=
  congrArg (fun d => Pipeline.defs Cert.Side.pcfgs d) defs₀_eq

/-- Every run of Side's kernel over bits ends with its arguments unchanged and every semaphore at zero. -/
theorem frame : Cert.quiescent_Side := fun m ρ _ => by
  have h := (θ_run (Cert.SideIdeal.defs (F := Bits)) _ _).mono (fun _ h => (⟨fun c => (h.1 c).2, h.2⟩ : (∀ c, _) ∧ _))
    (Cert.SideIdeal.Hand.run_blocks (F := Bits) m ρ)
  rw [defs_eq]
  exact h

end Cert.Side
-- ==== Proof.SideValue.lean ====
/- Hand-written, untrusted: the first 8192 columns of the input projection, `SideIdeal`, read as one function of its argument arrays.
   A grid point writes one block of 1024 rows by 512 lanes, with the whole inner dimension inside the point. -/
module

public import proofs.«01_k».proof.Proof.SideFrame
public import proofs.«01_k».proof.Proof.Gen.SideRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SideIdeal.RefValue

open Cert.SideIdeal Cert.SideIdeal.Gen Cert.SideIdeal.Hand

variable (m : (ℓ : Loc nD τ sig) → Buf (Elt Ideal) ℓ)

/-- The reference's term: the first 8192 columns of `a w_in`. -/
abbrev REF (x3 : FVec Ideal S2x4096x4096 .bf16) (x4 : FVec Ideal S2x4096x14336 .f32) : FVec Ideal S8192x8192 .f32 :=
  Cert.SideRefIdeal.Read.val_main_v5 (F := Ideal) x3 x4

/-- The block index of the three windows in closed form: 16 column blocks to a row block. -/
theorem idx : ∀ t : Fin cfg0.N, win0_10.index t = ![t.val / 16, 0]
    ∧ win0_11.index t = ![0, 0, t.val % 16]
    ∧ win0_13.index t = ![t.val / 16, t.val % 16] :=
  (by decide +kernel : ∀ t : Fin grid0.N, _)

open Cert.SideRefIdeal.Read in
set_option maxHeartbeats 1000000 in
/-- What a point stores at an index of its block is the reference's term at the index where the block sits. -/
theorem point (c : Dev nD) (t : Fin cfg0.N) (y : S1024x512.Idx) (j : S8192x8192.Idx)
    (h0 : (j 0 : Nat) = t.val / 16 * 1024 + y 0) (h1 : (j 1 : Nat) = t.val % 16 * 512 + y 1) :
    prod (iblk m c 10 t) (iblk m c 11 t) y
      = REF (m ((c : Thread nD τ).loc main_arg3)) (m ((c : Thread nD τ).loc main_arg4)) j := by
  unfold prod
  pointwise [k0_pay12, k0_pay4, REF, val_main_v5, val_main_v4, val_main_v3, val_main_v2, val_main_v1, val_main_v0]
  blk_point [iblk, V, idx t]

/-- The result array after the run is the reference's term of the argument arrays. -/
theorem final (c : Dev nD) : (dats m 0 c).arrAt 13 cfg0.N
    = REF (m ((c : Thread nD τ).loc main_arg3)) (m ((c : Thread nD τ).loc main_arg4)) := by
  refine (dats m 0 c).arrAt_eq_of_covers 13 _ (by decide +kernel) fun t _ y => ?_
  blk_simp
  rw [after0_13]
  refine point m c t y _ ?_ ?_ <;> blk_simp [idx t]

/-- A run ends with the result array as the launch's blocks leave it, and the arguments unchanged. -/
theorem run_blocks (ρ : Dev nD → PrngReg) :
    θ_run (defs (F := Ideal)) (onTc (τ := τ) (main (F := Ideal))) ⟨m, fun _ => 0, ρ⟩ fun r => ∀ c : Dev nD,
      r.2.mem ((c : Thread nD τ).loc (Pipeline.arrRef spec0 13)) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun _ h => h.1) (Hand.run_blocks (F := Ideal) m ρ)

end Cert.SideIdeal.RefValue

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.AttnIdeal.Value
public import proofs.«01_k».proof.Proof.Gen.GateIdeal.Value
public import proofs.«01_k».proof.Proof.Gen.DownIdeal.Value
public import proofs.«01_k».proof.Proof.Gen.LastIdeal.Value
public import proofs.«01_k».proof.Proof.Gen.AttnRefIdeal.Run
public import proofs.«01_k».proof.Proof.Gen.AttnRefIdeal.Read
public import proofs.«01_k».proof.Proof.Gen.GateRefIdeal.Run
public import proofs.«01_k».proof.Proof.Gen.GateRefIdeal.Read
public import proofs.«01_k».proof.Proof.Gen.DownRefIdeal.Run
public import proofs.«01_k».proof.Proof.Gen.DownRefIdeal.Read
public import proofs.«01_k».proof.Proof.Gen.LastRefIdeal.Run
public import proofs.«01_k».proof.Proof.Gen.LastRefIdeal.Read
public import proofs.«01_k».proof.Proof.AttnPre
public import proofs.«01_k».proof.Proof.AttnValue
public import proofs.«01_k».proof.Proof.GateValue
public import proofs.«01_k».proof.Proof.DownValue
public import proofs.«01_k».proof.Proof.LastValue
public import proofs.«01_k».proof.Proof.NormValue
public import proofs.«01_k».proof.Proof.InProjValue
public import proofs.«01_k».proof.Proof.OutProjValue
public import proofs.«01_k».proof.Proof.MemProjValue
public import proofs.«01_k».proof.Proof.NextValue
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.NormRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.MemProj
public import proofs.«01_k».proof.Proof.Gen.MemProj.Skeleton
public import proofs.«01_k».proof.Proof.Gen.MemProj.Launch
public import proofs.«01_k».proof.Proof.Gen.MemProj.Points
public import proofs.«01_k».proof.Proof.Gen.MemProj.Frame
public import proofs.«01_k».proof.Proof.Gen.MemProjIdeal
public import proofs.«01_k».proof.Proof.Gen.MemProjIdeal.Skeleton
public import proofs.«01_k».proof.Proof.Gen.MemProjIdeal.Launch
public import proofs.«01_k».proof.Proof.Gen.MemProjIdeal.Points
public import proofs.«01_k».proof.Proof.Gen.MemProjIdeal.Frame
public import proofs.«01_k».proof.Proof.Gen.MemProjRefIdeal
public import proofs.«01_k».proof.Proof.Gen.MemProjIdeal.Value
public import proofs.«01_k».proof.Proof.Gen.MemProjRefIdeal.Run
public import proofs.«01_k».proof.Proof.Gen.MemProjRefIdeal.Read
public import proofs.«01_k».proof.Proof.Gen.Next
public import proofs.«01_k».proof.Proof.Gen.Next.Skeleton
public import proofs.«01_k».proof.Proof.Gen.Next.Launch
public import proofs.«01_k».proof.Proof.Gen.Next.Points
public import proofs.«01_k».proof.Proof.Gen.Next.Frame
public import proofs.«01_k».proof.Proof.Gen.NextIdeal
public import proofs.«01_k».proof.Proof.Gen.NextIdeal.Skeleton
public import proofs.«01_k».proof.Proof.Gen.NextIdeal.Launch
public import proofs.«01_k».proof.Proof.Gen.NextIdeal.Points
public import proofs.«01_k».proof.Proof.Gen.NextIdeal.Frame
public import proofs.«01_k».proof.Proof.Gen.NextRefIdeal
public import proofs.«01_k».proof.Proof.Gen.NextIdeal.Value
public import proofs.«01_k».proof.Proof.Gen.NextRefIdeal.Run
public import proofs.«01_k».proof.Proof.Gen.NextRefIdeal.Read
public import proofs.«01_k».proof.Proof.Gen.Side
public import proofs.«01_k».proof.Proof.Gen.SideIdeal
public import proofs.«01_k».proof.Proof.Gen.SideIdeal.Skeleton
public import proofs.«01_k».proof.Proof.Gen.SideIdeal.Launch
public import proofs.«01_k».proof.Proof.Gen.SideIdeal.Points
public import proofs.«01_k».proof.Proof.Gen.SideIdeal.Frame
public import proofs.«01_k».proof.Proof.Gen.SideRefIdeal
public import proofs.«01_k».proof.Proof.Gen.SideRefIdeal.Run
public import proofs.«01_k».proof.Proof.Gen.SideRefIdeal.Read
public import Idealize.ShloMosaic.Adequacy
public import Idealize.ShloMosaic.Init
public import proofs.«01_k».proof.Proof.SideBits
public import proofs.«01_k».proof.Proof.SideValue

@[expose] public section

noncomputable section

namespace Cert.Proof

open Idealize.ShloMosaic Idealize.SL.Sem Cert.Attn

/-- Every run of the reference program of Attn ends with its results as the read terms of its arguments, and the arguments unchanged. -/
theorem ref_run_Attn (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ fun r => ∀ c : Dev Cert.AttnRefIdeal.nD,
      r.2.mem ((c.tc : Thread Cert.AttnRefIdeal.nD Cert.AttnRefIdeal.τ).loc Cert.AttnRefIdeal.main_v68) = Cert.AttnRefIdeal.Read.val_main_v68 (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))
      ∧ r.2.mem ((c.tc : Thread Cert.AttnRefIdeal.nD Cert.AttnRefIdeal.τ).loc Cert.AttnRefIdeal.main_v83) = Cert.AttnRefIdeal.Read.val_main_v83 (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))
      ∧ r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9) :=
  (θ_run Cert.AttnRefIdeal.defs _ _).mono (fun r h c => ⟨(h c).1.trans (Cert.AttnRefIdeal.Read.val_main_v68_eq (StableHlo.launchContents m c)), (h c).2.1.trans (Cert.AttnRefIdeal.Read.val_main_v83_eq (StableHlo.launchContents m c)), (h c).2.2⟩)
    (Cert.AttnRefIdeal.Value.run (F := Ideal) m ρ)

/-- Every run of the reference program of Attn ends with its arguments unchanged and every semaphore at zero. -/
theorem ref_frame_Attn : Cert.quiescent_AttnRefIdeal := fun m ρ _ =>
  (θ_run Cert.AttnRefIdeal.defs _ _).mono (fun r h => ⟨fun c => ⟨(h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩, Idealize.ShloMosaic.sem_eq_zero_of_no_sems (by decide) r.2⟩)
    (Cert.AttnRefIdeal.Value.run (F := Ideal) m ρ)

/-- The precondition says that the six arrays the scores are computed from hold real numbers. -/
theorem real_scores (m : (ℓ : Loc Cert.AttnIdeal.nD Cert.AttnIdeal.τ Cert.AttnIdeal.sig) → Buf (Elt Ideal) ℓ)
    (h : Cert.Pre_AttnIdeal_finite_scores (hPre_finite_scores := Cert.AttnPre.facts) m) (c : Dev Cert.AttnIdeal.nD) :
    Cert.AttnIdeal.RefValue.RealScores m c := by
  haveI : Cert.Pre_finite_scores.Facts := Cert.AttnPre.facts
  obtain ⟨h0, h1, h2, h3, h6, h8⟩ := Cert.AttnPre.decode (h c)
  exact ⟨h0, h1, h2, h3, h6, h8⟩

/-- Over the ideal numbers the attention kernel and its reference end with the same two result arrays, when the scores are real. -/
theorem value_Attn : Cert.algebraic_AttnIdeal_AttnRefIdeal_pre_finite_scores (hPre_finite_scores := Cert.AttnPre.facts) := by
  pair_intro
  · run_from Cert.AttnIdeal.Value.run_blocks m g
  · run_from ref_run_Attn m' g'
    · exact (Cert.AttnIdeal.RefValue.final7 m c (real_scores m hpre c)).symm
    · exact (Cert.AttnIdeal.RefValue.final8 m c (real_scores m hpre c)).symm

/-- Every run of the reference program of Gate ends with its results as the read terms of its arguments, and the arguments unchanged. -/
theorem ref_run_Gate (m : (ℓ : Loc Cert.GateRefIdeal.nD Cert.GateRefIdeal.τ Cert.GateRefIdeal.sig) → Buf (Elt Ideal) ℓ) (ρ : Dev Cert.GateRefIdeal.nD → PrngReg) :
    θ_run (Cert.GateRefIdeal.defs (F := Ideal)) (onTc (τ := Cert.GateRefIdeal.τ) (Cert.GateRefIdeal.main (F := Ideal))) ⟨m, fun _ => 0, ρ⟩ fun r => ∀ c : Dev Cert.GateRefIdeal.nD,
      r.2.mem ((c.tc : Thread Cert.GateRefIdeal.nD Cert.GateRefIdeal.τ).loc Cert.GateRefIdeal.main_v10) = Cert.GateRefIdeal.Read.val_main_v10 (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))
      ∧ r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2) :=
  (θ_run Cert.GateRefIdeal.defs _ _).mono (fun r h c => ⟨(h c).1.trans (Cert.GateRefIdeal.Read.val_main_v10_eq _ _ _), (h c).2⟩)
    (Cert.GateRefIdeal.Value.run (F := Ideal) m ρ)

/-- Every run of the reference program of Gate ends with its arguments unchanged and every semaphore at zero. -/
theorem ref_frame_Gate : Cert.quiescent_GateRefIdeal := fun m ρ _ =>
  (θ_run Cert.GateRefIdeal.defs _ _).mono (fun r h => ⟨fun c => ⟨(h c).2.1, (h c).2.2.1, (h c).2.2.2⟩, Idealize.ShloMosaic.sem_eq_zero_of_no_sems (by decide) r.2⟩)
    (Cert.GateRefIdeal.Value.run (F := Ideal) m ρ)

/-- Over the ideal numbers Gate's kernel and its reference end with the same result array. -/
theorem value_Gate : Cert.algebraic_GateIdeal_GateRefIdeal := by
  pair_intro
  · run_from Cert.GateIdeal.Value.run_blocks m g
  · refine (θ_run _ _ _).mono (fun r h c => ⟨(h c).1.trans ?_, (h c).2⟩) (ref_run_Gate m' g')
    rw [(hagree c).1, (hagree c).2.1, (hagree c).2.2]
    exact (Cert.GateIdeal.RefValue.final m c).symm

/-- Every run of the reference program of Down ends with its results as the read terms of its arguments, and the arguments unchanged. -/
theorem ref_run_Down (m : (ℓ : Loc Cert.DownRefIdeal.nD Cert.DownRefIdeal.τ Cert.DownRefIdeal.sig) → Buf (Elt Ideal) ℓ) (ρ : Dev Cert.DownRefIdeal.nD → PrngReg) :
    θ_run (Cert.DownRefIdeal.defs (F := Ideal)) (onTc (τ := Cert.DownRefIdeal.τ) (Cert.DownRefIdeal.main (F := Ideal))) ⟨m, fun _ => 0, ρ⟩ fun r => ∀ c : Dev Cert.DownRefIdeal.nD,
      r.2.mem ((c.tc : Thread Cert.DownRefIdeal.nD Cert.DownRefIdeal.τ).loc Cert.DownRefIdeal.main_v3) = Cert.DownRefIdeal.Read.val_main_v3 (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1))
      ∧ r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1) :=
  (θ_run Cert.DownRefIdeal.defs _ _).mono (fun r h c => ⟨(h c).1.trans (Cert.DownRefIdeal.Read.val_main_v3_eq _ _), (h c).2⟩)
    (Cert.DownRefIdeal.Value.run (F := Ideal) m ρ)

/-- Every run of the reference program of Down ends with its arguments unchanged and every semaphore at zero. -/
theorem ref_frame_Down : Cert.quiescent_DownRefIdeal := fun m ρ _ =>
  (θ_run Cert.DownRefIdeal.defs _ _).mono (fun r h => ⟨fun c => ⟨(h c).2.1, (h c).2.2⟩, Idealize.ShloMosaic.sem_eq_zero_of_no_sems (by decide) r.2⟩)
    (Cert.DownRefIdeal.Value.run (F := Ideal) m ρ)

/-- Over the ideal numbers Down's kernel and its reference end with the same result array. -/
theorem value_Down : Cert.algebraic_DownIdeal_DownRefIdeal := by
  pair_intro
  · run_from Cert.DownIdeal.Value.run_blocks m g
  · refine (θ_run _ _ _).mono (fun r h c => ⟨(h c).1.trans ?_, (h c).2⟩) (ref_run_Down m' g')
    rw [(hagree c).1, (hagree c).2]
    exact (Cert.DownIdeal.RefValue.final m c).symm

/-- Every run of the reference program of Last ends with its results as the read terms of its arguments, and the arguments unchanged. -/
theorem ref_run_Last (m : (ℓ : Loc Cert.LastRefIdeal.nD Cert.LastRefIdeal.τ Cert.LastRefIdeal.sig) → Buf (Elt Ideal) ℓ) (ρ : Dev Cert.LastRefIdeal.nD → PrngReg) :
    θ_run (Cert.LastRefIdeal.defs (F := Ideal)) (onTc (τ := Cert.LastRefIdeal.τ) (Cert.LastRefIdeal.main (F := Ideal))) ⟨m, fun _ => 0, ρ⟩ fun r => ∀ c : Dev Cert.LastRefIdeal.nD,
      r.2.mem ((c.tc : Thread Cert.LastRefIdeal.nD Cert.LastRefIdeal.τ).loc Cert.LastRefIdeal.main_v14) = Cert.LastRefIdeal.Read.val_main_v14 (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2))
      ∧ r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2) :=
  (θ_run Cert.LastRefIdeal.defs _ _).mono (fun r h c => ⟨(h c).1.trans (Cert.LastRefIdeal.Read.val_main_v14_eq _ _ _), (h c).2⟩)
    (Cert.LastRefIdeal.Value.run (F := Ideal) m ρ)

/-- Every run of the reference program of Last ends with its arguments unchanged and every semaphore at zero. -/
theorem ref_frame_Last : Cert.quiescent_LastRefIdeal := fun m ρ _ =>
  (θ_run Cert.LastRefIdeal.defs _ _).mono (fun r h => ⟨fun c => ⟨(h c).2.1, (h c).2.2.1, (h c).2.2.2⟩, Idealize.ShloMosaic.sem_eq_zero_of_no_sems (by decide) r.2⟩)
    (Cert.LastRefIdeal.Value.run (F := Ideal) m ρ)

/-- Over the ideal numbers Last's kernel and its reference end with the same result array. -/
theorem value_Last : Cert.algebraic_LastIdeal_LastRefIdeal := by
  pair_intro
  · run_from Cert.LastIdeal.Value.run_blocks m g
  · refine (θ_run _ _ _).mono (fun r h c => ⟨(h c).1.trans ?_, (h c).2⟩) (ref_run_Last m' g')
    rw [(hagree c).1, (hagree c).2.1, (hagree c).2.2]
    exact (Cert.LastIdeal.RefValue.final m c).symm

/-- Every run of the reference program of Norm ends with its results as the read terms of its arguments, and the arguments unchanged. -/
theorem ref_run_Norm (m : (ℓ : Loc Cert.NormRefIdeal.nD Cert.NormRefIdeal.τ Cert.NormRefIdeal.sig) → Buf (Elt Ideal) ℓ) (ρ : Dev Cert.NormRefIdeal.nD → PrngReg) :
    θ_run (Cert.NormRefIdeal.defs (F := Ideal)) (onTc (τ := Cert.NormRefIdeal.τ) (Cert.NormRefIdeal.main (F := Ideal))) ⟨m, fun _ => 0, ρ⟩ fun r => ∀ c : Dev Cert.NormRefIdeal.nD,
      r.2.mem ((c.tc : Thread Cert.NormRefIdeal.nD Cert.NormRefIdeal.τ).loc Cert.NormRefIdeal.main_v14) = Cert.NormRefIdeal.Read.val_main_v14 (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1))
      ∧ r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1) :=
  (θ_run Cert.NormRefIdeal.defs _ _).mono (fun r h c => ⟨(h c).1.trans (Cert.NormRefIdeal.Read.val_main_v14_eq _ _), (h c).2⟩)
    (Cert.NormRefIdeal.Value.run (F := Ideal) m ρ)

/-- Every run of the reference program of Norm ends with its arguments unchanged and every semaphore at zero. -/
theorem ref_frame_Norm : Cert.quiescent_NormRefIdeal := fun m ρ _ =>
  (θ_run Cert.NormRefIdeal.defs _ _).mono (fun r h => ⟨fun c => ⟨(h c).2.1, (h c).2.2⟩, Idealize.ShloMosaic.sem_eq_zero_of_no_sems (by decide) r.2⟩)
    (Cert.NormRefIdeal.Value.run (F := Ideal) m ρ)

/-- Over the ideal numbers Norm's kernel and its reference end with the same result array. -/
theorem value_Norm : Cert.algebraic_NormIdeal_NormRefIdeal := by
  pair_intro
  · run_from Cert.NormIdeal.Value.run_blocks m g
  · refine (θ_run _ _ _).mono (fun r h c => ⟨(h c).1.trans ?_, (h c).2⟩) (ref_run_Norm m' g')
    rw [(hagree c).1, (hagree c).2]
    exact (Cert.NormIdeal.RefValue.final m c).symm

/-- Every run of the reference program of InProj ends with its results as the read terms of its arguments, and the arguments unchanged. -/
theorem ref_run_InProj (m : (ℓ : Loc Cert.InProjRefIdeal.nD Cert.InProjRefIdeal.τ Cert.InProjRefIdeal.sig) → Buf (Elt Ideal) ℓ) (ρ : Dev Cert.InProjRefIdeal.nD → PrngReg) :
    θ_run (Cert.InProjRefIdeal.defs (F := Ideal)) (onTc (τ := Cert.InProjRefIdeal.τ) (Cert.InProjRefIdeal.main (F := Ideal))) ⟨m, fun _ => 0, ρ⟩ fun r => ∀ c : Dev Cert.InProjRefIdeal.nD,
      r.2.mem ((c.tc : Thread Cert.InProjRefIdeal.nD Cert.InProjRefIdeal.τ).loc Cert.InProjRefIdeal.main_v5) = Cert.InProjRefIdeal.Read.val_main_v5 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1))
      ∧ r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1) :=
  (θ_run Cert.InProjRefIdeal.defs _ _).mono (fun r h c => ⟨(h c).1.trans (Cert.InProjRefIdeal.Read.val_main_v5_eq _ _), (h c).2⟩)
    (Cert.InProjRefIdeal.Value.run (F := Ideal) m ρ)

/-- Every run of the reference program of InProj ends with its arguments unchanged and every semaphore at zero. -/
theorem ref_frame_InProj : Cert.quiescent_InProjRefIdeal := fun m ρ _ =>
  (θ_run Cert.InProjRefIdeal.defs _ _).mono (fun r h => ⟨fun c => ⟨(h c).2.1, (h c).2.2⟩, Idealize.ShloMosaic.sem_eq_zero_of_no_sems (by decide) r.2⟩)
    (Cert.InProjRefIdeal.Value.run (F := Ideal) m ρ)

/-- Over the ideal numbers InProj's kernel and its reference end with the same result array. -/
theorem value_InProj : Cert.algebraic_InProjIdeal_InProjRefIdeal := by
  pair_intro
  · run_from Cert.InProjIdeal.Value.run_blocks m g
  · refine (θ_run _ _ _).mono (fun r h c => ⟨(h c).1.trans ?_, (h c).2⟩) (ref_run_InProj m' g')
    rw [(hagree c).1, (hagree c).2]
    exact (Cert.InProjIdeal.RefValue.final m c).symm

/-- Every run of the reference program of OutProj ends with its results as the read terms of its arguments, and the arguments unchanged. -/
theorem ref_run_OutProj (m : (ℓ : Loc Cert.OutProjRefIdeal.nD Cert.OutProjRefIdeal.τ Cert.OutProjRefIdeal.sig) → Buf (Elt Ideal) ℓ) (ρ : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, ρ⟩ fun r => ∀ c : Dev Cert.OutProjRefIdeal.nD,
      r.2.mem ((c.tc : Thread Cert.OutProjRefIdeal.nD Cert.OutProjRefIdeal.τ).loc Cert.OutProjRefIdeal.main_v5) = Cert.OutProjRefIdeal.Read.val_main_v5 (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3))
      ∧ r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3) :=
  (θ_run Cert.OutProjRefIdeal.defs _ _).mono (fun r h c => ⟨(h c).1.trans (Cert.OutProjRefIdeal.Read.val_main_v5_eq _ _ _ _), (h c).2⟩)
    (Cert.OutProjRefIdeal.Value.run (F := Ideal) m ρ)

/-- Every run of the reference program of OutProj ends with its arguments unchanged and every semaphore at zero. -/
theorem ref_frame_OutProj : Cert.quiescent_OutProjRefIdeal := fun m ρ _ =>
  (θ_run Cert.OutProjRefIdeal.defs _ _).mono (fun r h => ⟨fun c => ⟨(h c).2.1, (h c).2.2.1, (h c).2.2.2.1, (h c).2.2.2.2⟩, Idealize.ShloMosaic.sem_eq_zero_of_no_sems (by decide) r.2⟩)
    (Cert.OutProjRefIdeal.Value.run (F := Ideal) m ρ)

/-- Over the ideal numbers OutProj's kernel and its reference end with the same result array. -/
theorem value_OutProj : Cert.algebraic_OutProjIdeal_OutProjRefIdeal := by
  pair_intro
  · run_from Cert.OutProjIdeal.Value.run_blocks m g
  · refine (θ_run _ _ _).mono (fun r h c => ⟨(h c).1.trans ?_, (h c).2⟩) (ref_run_OutProj m' g')
    rw [(hagree c).1, (hagree c).2.1, (hagree c).2.2.1, (hagree c).2.2.2]
    exact (Cert.OutProjIdeal.RefValue.final m c).symm

/-- Every run of the reference program of MemProj ends with its results as the read terms of its arguments, and the arguments unchanged. -/
theorem ref_run_MemProj (m : (ℓ : Loc Cert.MemProjRefIdeal.nD Cert.MemProjRefIdeal.τ Cert.MemProjRefIdeal.sig) → Buf (Elt Ideal) ℓ) (ρ : Dev Cert.MemProjRefIdeal.nD → PrngReg) :
    θ_run (Cert.MemProjRefIdeal.defs (F := Ideal)) (onTc (τ := Cert.MemProjRefIdeal.τ) (Cert.MemProjRefIdeal.main (F := Ideal))) ⟨m, fun _ => 0, ρ⟩ fun r => ∀ c : Dev Cert.MemProjRefIdeal.nD,
      r.2.mem ((c.tc : Thread Cert.MemProjRefIdeal.nD Cert.MemProjRefIdeal.τ).loc Cert.MemProjRefIdeal.main_v5) = Cert.MemProjRefIdeal.Read.val_main_v5 (F := Ideal) (m ((c.tc : Thread Cert.MemProjRefIdeal.nD Cert.MemProjRefIdeal.τ).loc Cert.MemProjRefIdeal.main_arg0)) (m ((c.tc : Thread Cert.MemProjRefIdeal.nD Cert.MemProjRefIdeal.τ).loc Cert.MemProjRefIdeal.main_arg1))
      ∧ r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1) :=
  (θ_run Cert.MemProjRefIdeal.defs _ _).mono (fun r h c => ⟨(h c).1.trans (Cert.MemProjRefIdeal.Read.val_main_v5_eq _ _), (h c).2⟩)
    (Cert.MemProjRefIdeal.Value.run (F := Ideal) m ρ)

/-- Every run of the reference program of MemProj ends with its arguments unchanged and every semaphore at zero. -/
theorem ref_frame_MemProj : Cert.quiescent_MemProjRefIdeal := fun m ρ _ =>
  (θ_run Cert.MemProjRefIdeal.defs _ _).mono (fun r h => ⟨fun c => ⟨(h c).2.1, (h c).2.2⟩, Idealize.ShloMosaic.sem_eq_zero_of_no_sems (by decide) r.2⟩)
    (Cert.MemProjRefIdeal.Value.run (F := Ideal) m ρ)

/-- Over the ideal numbers MemProj's kernel and its reference end with the same result array. -/
theorem value_MemProj : Cert.algebraic_MemProjIdeal_MemProjRefIdeal := by
  pair_intro
  · run_from Cert.MemProjIdeal.Value.run_blocks m g
  · refine (θ_run _ _ _).mono (fun r h c => ⟨(h c).1.trans ?_, (h c).2⟩) (ref_run_MemProj m' g')
    rw [(hagree c).1, (hagree c).2]
    exact (Cert.MemProjIdeal.RefValue.final m c).symm

/-- Every run of the reference program of Next ends with its results as the read terms of its arguments, and the arguments unchanged. -/
theorem ref_run_Next (m : (ℓ : Loc Cert.NextRefIdeal.nD Cert.NextRefIdeal.τ Cert.NextRefIdeal.sig) → Buf (Elt Ideal) ℓ) (ρ : Dev Cert.NextRefIdeal.nD → PrngReg) :
    θ_run (Cert.NextRefIdeal.defs (F := Ideal)) (onTc (τ := Cert.NextRefIdeal.τ) (Cert.NextRefIdeal.main (F := Ideal))) ⟨m, fun _ => 0, ρ⟩ fun r => ∀ c : Dev Cert.NextRefIdeal.nD,
      r.2.mem ((c.tc : Thread Cert.NextRefIdeal.nD Cert.NextRefIdeal.τ).loc Cert.NextRefIdeal.main_v14) = Cert.NextRefIdeal.Read.val_main_v14 (F := Ideal) (m ((c.tc : Thread Cert.NextRefIdeal.nD Cert.NextRefIdeal.τ).loc Cert.NextRefIdeal.main_arg0)) (m ((c.tc : Thread Cert.NextRefIdeal.nD Cert.NextRefIdeal.τ).loc Cert.NextRefIdeal.main_arg1)) (m ((c.tc : Thread Cert.NextRefIdeal.nD Cert.NextRefIdeal.τ).loc Cert.NextRefIdeal.main_arg2))
      ∧ r.2.mem ((c.tc : Thread Cert.NextRefIdeal.nD Cert.NextRefIdeal.τ).loc Cert.NextRefIdeal.main_v29) = Cert.NextRefIdeal.Read.val_main_v29 (F := Ideal) (m ((c.tc : Thread Cert.NextRefIdeal.nD Cert.NextRefIdeal.τ).loc Cert.NextRefIdeal.main_arg0)) (m ((c.tc : Thread Cert.NextRefIdeal.nD Cert.NextRefIdeal.τ).loc Cert.NextRefIdeal.main_arg1)) (m ((c.tc : Thread Cert.NextRefIdeal.nD Cert.NextRefIdeal.τ).loc Cert.NextRefIdeal.main_arg2)) (m ((c.tc : Thread Cert.NextRefIdeal.nD Cert.NextRefIdeal.τ).loc Cert.NextRefIdeal.main_arg3))
      ∧ r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3) :=
  (θ_run Cert.NextRefIdeal.defs _ _).mono (fun r h c => ⟨(h c).1.trans (Cert.NextRefIdeal.Read.val_main_v14_eq _ _ _), (h c).2.1.trans (Cert.NextRefIdeal.Read.val_main_v29_eq _ _ _ _), (h c).2.2⟩)
    (Cert.NextRefIdeal.Value.run (F := Ideal) m ρ)

/-- Every run of the reference program of Next ends with its arguments unchanged and every semaphore at zero. -/
theorem ref_frame_Next : Cert.quiescent_NextRefIdeal := fun m ρ _ =>
  (θ_run Cert.NextRefIdeal.defs _ _).mono (fun r h => ⟨fun c => ⟨(h c).2.2.1, (h c).2.2.2.1, (h c).2.2.2.2.1, (h c).2.2.2.2.2⟩, Idealize.ShloMosaic.sem_eq_zero_of_no_sems (by decide) r.2⟩)
    (Cert.NextRefIdeal.Value.run (F := Ideal) m ρ)

/-- Over the ideal numbers Next's kernel and its reference end with the same two result arrays. -/
theorem value_Next : Cert.algebraic_NextIdeal_NextRefIdeal := by
  pair_intro
  · run_from Cert.NextIdeal.Value.run_blocks m g
  · refine (θ_run _ _ _).mono (fun r h c => ⟨(h c).1.trans ?_, (h c).2.1.trans ?_, (h c).2.2⟩) (ref_run_Next m' g')
    · rw [(hagree c).1, (hagree c).2.1, (hagree c).2.2.1]
      exact (Cert.NextIdeal.RefValue.final4 m c).symm
    · rw [(hagree c).1, (hagree c).2.1, (hagree c).2.2.1, (hagree c).2.2.2]
      exact (Cert.NextIdeal.RefValue.final5 m c).symm

/-- Every run of the reference program of Side ends with its results as the read terms of its arguments, and the arguments unchanged. -/
theorem ref_run_Side (m : (ℓ : Loc Cert.SideRefIdeal.nD Cert.SideRefIdeal.τ Cert.SideRefIdeal.sig) → Buf (Elt Ideal) ℓ) (ρ : Dev Cert.SideRefIdeal.nD → PrngReg) :
    θ_run (Cert.SideRefIdeal.defs (F := Ideal)) (onTc (τ := Cert.SideRefIdeal.τ) (Cert.SideRefIdeal.main (F := Ideal))) ⟨m, fun _ => 0, ρ⟩ fun r => ∀ c : Dev Cert.SideRefIdeal.nD,
      r.2.mem ((c.tc : Thread Cert.SideRefIdeal.nD Cert.SideRefIdeal.τ).loc Cert.SideRefIdeal.main_v5) = Cert.SideRefIdeal.Read.val_main_v5 (F := Ideal) (m ((c.tc : Thread Cert.SideRefIdeal.nD Cert.SideRefIdeal.τ).loc Cert.SideRefIdeal.main_arg3)) (m ((c.tc : Thread Cert.SideRefIdeal.nD Cert.SideRefIdeal.τ).loc Cert.SideRefIdeal.main_arg4))
      ∧ r.2.mem ((c.tc : Thread Cert.SideRefIdeal.nD Cert.SideRefIdeal.τ).loc Cert.SideRefIdeal.main_arg0) = m ((c.tc : Thread Cert.SideRefIdeal.nD Cert.SideRefIdeal.τ).loc Cert.SideRefIdeal.main_arg0)
      ∧ r.2.mem ((c.tc : Thread Cert.SideRefIdeal.nD Cert.SideRefIdeal.τ).loc Cert.SideRefIdeal.main_arg1) = m ((c.tc : Thread Cert.SideRefIdeal.nD Cert.SideRefIdeal.τ).loc Cert.SideRefIdeal.main_arg1)
      ∧ r.2.mem ((c.tc : Thread Cert.SideRefIdeal.nD Cert.SideRefIdeal.τ).loc Cert.SideRefIdeal.main_arg2) = m ((c.tc : Thread Cert.SideRefIdeal.nD Cert.SideRefIdeal.τ).loc Cert.SideRefIdeal.main_arg2)
      ∧ r.2.mem ((c.tc : Thread Cert.SideRefIdeal.nD Cert.SideRefIdeal.τ).loc Cert.SideRefIdeal.main_arg3) = m ((c.tc : Thread Cert.SideRefIdeal.nD Cert.SideRefIdeal.τ).loc Cert.SideRefIdeal.main_arg3)
      ∧ r.2.mem ((c.tc : Thread Cert.SideRefIdeal.nD Cert.SideRefIdeal.τ).loc Cert.SideRefIdeal.main_arg4) = m ((c.tc : Thread Cert.SideRefIdeal.nD Cert.SideRefIdeal.τ).loc Cert.SideRefIdeal.main_arg4) :=
  (θ_run Cert.SideRefIdeal.defs _ _).mono (fun r h c => ⟨(h c).1.trans (Cert.SideRefIdeal.Read.val_main_v5_eq _ _), (h c).2⟩)
    (Cert.SideRefIdeal.Value.run (F := Ideal) m ρ)

/-- Every run of the reference program of Side ends with its arguments unchanged and every semaphore at zero. -/
theorem ref_frame_Side : Cert.quiescent_SideRefIdeal := fun m ρ _ =>
  (θ_run Cert.SideRefIdeal.defs _ _).mono (fun r h => ⟨fun c => ⟨(h c).2.1, (h c).2.2.1, (h c).2.2.2.1, (h c).2.2.2.2.1, (h c).2.2.2.2.2⟩, Idealize.ShloMosaic.sem_eq_zero_of_no_sems (by decide) r.2⟩)
    (Cert.SideRefIdeal.Value.run (F := Ideal) m ρ)

/-- Over the ideal numbers Side's kernel and its reference end with the same result array. -/
theorem value_Side : Cert.algebraic_SideIdeal_SideRefIdeal := by
  pair_intro
  · run_from Cert.SideIdeal.RefValue.run_blocks m g
  · refine (θ_run _ _ _).mono (fun r h c => ⟨(h c).1.trans ?_, (h c).2⟩) (ref_run_Side m' g')
    rw [(hagree c).2.2.2.1, (hagree c).2.2.2.2]
    exact (Cert.SideIdeal.RefValue.final m c).symm

/-- Every run of Side's kernel over the ideal numbers ends with its arguments unchanged and every semaphore at zero. -/
theorem frame_SideIdeal : Cert.quiescent_SideIdeal := fun m ρ _ =>
  (θ_run Cert.SideIdeal.defs _ _).mono (fun _ h => ⟨fun c => (h.1 c).2, h.2⟩) (Cert.SideIdeal.Hand.run_blocks m ρ)

/-- All the claims. -/
theorem claim : Cert.Claim := ⟨Cert.Attn.Gen.facts, Cert.AttnIdeal.Gen.facts, Cert.AttnRefIdeal.Gen.facts, Cert.Gate.Gen.facts, Cert.GateIdeal.Gen.facts, Cert.GateRefIdeal.Gen.facts, Cert.Down.Gen.facts, Cert.DownIdeal.Gen.facts, Cert.DownRefIdeal.Gen.facts, Cert.Last.Gen.facts, Cert.LastIdeal.Gen.facts, Cert.LastRefIdeal.Gen.facts, Cert.Norm.Gen.facts, Cert.NormIdeal.Gen.facts, Cert.NormRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.MemProj.Gen.facts, Cert.MemProjIdeal.Gen.facts, Cert.MemProjRefIdeal.Gen.facts, Cert.Next.Gen.facts, Cert.NextIdeal.Gen.facts, Cert.NextRefIdeal.Gen.facts, Cert.Side.Gen.facts, Cert.SideIdeal.Gen.facts, Cert.SideRefIdeal.Gen.facts, Cert.AttnPre.facts,
  fun m ρ _ => Cert.Attn.Gen.frame m ρ,
  fun m ρ _ => Cert.AttnIdeal.Gen.frame m ρ,
  fun m ρ _ => Cert.AttnIdeal.Gen.frame m ρ,
  ref_frame_Attn,
  fun m ρ _ => ref_frame_Attn m ρ trivial,
  fun m ρ _ => Cert.Gate.Gen.frame m ρ,
  fun m ρ _ => Cert.GateIdeal.Gen.frame m ρ,
  ref_frame_Gate,
  fun m ρ _ => Cert.Down.Gen.frame m ρ,
  fun m ρ _ => Cert.DownIdeal.Gen.frame m ρ,
  ref_frame_Down,
  fun m ρ _ => Cert.Last.Gen.frame m ρ,
  fun m ρ _ => Cert.LastIdeal.Gen.frame m ρ,
  ref_frame_Last,
  fun m ρ _ => Cert.Norm.Gen.frame m ρ,
  fun m ρ _ => Cert.NormIdeal.Gen.frame m ρ,
  ref_frame_Norm,
  fun m ρ _ => Cert.InProj.Gen.frame m ρ,
  fun m ρ _ => Cert.InProjIdeal.Gen.frame m ρ,
  ref_frame_InProj,
  fun m ρ _ => Cert.OutProj.Gen.frame m ρ,
  fun m ρ _ => Cert.OutProjIdeal.Gen.frame m ρ,
  ref_frame_OutProj,
  fun m ρ _ => Cert.MemProj.Gen.frame m ρ,
  fun m ρ _ => Cert.MemProjIdeal.Gen.frame m ρ,
  ref_frame_MemProj,
  fun m ρ _ => Cert.Next.Gen.frame m ρ,
  fun m ρ _ => Cert.NextIdeal.Gen.frame m ρ,
  ref_frame_Next,
  Cert.Side.frame,
  frame_SideIdeal,
  ref_frame_Side,
  trivial,
  value_Attn,
  trivial,
  value_Gate,
  trivial,
  value_Down,
  trivial,
  value_Last,
  trivial,
  value_Norm,
  trivial,
  value_InProj,
  trivial,
  value_OutProj,
  trivial,
  value_MemProj,
  trivial,
  value_Next,
  trivial,
  value_Side⟩

end Cert.Proof

end
